-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_v100) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2048x1024 : Shape := ⟨2, ![2048, 1024]⟩
abbrev S1024x64 : Shape := ⟨2, ![1024, 64]⟩
abbrev S1024x1024 : Shape := ⟨2, ![1024, 1024]⟩
abbrev S1024 : Shape := ⟨1, ![1024]⟩
abbrev S_ : Shape := ⟨0, ![]⟩

class Facts : Prop where
  bcast_S_S2048x1024 : S_.BroadcastsInDim S2048x1024 (![] : Fin 0 → Fin S2048x1024.rank)
  bcast_S_S1024x64 : S_.BroadcastsInDim S1024x64 (![] : Fin 0 → Fin S1024x64.rank)
  bcast_S_S1024x1024 : S_.BroadcastsInDim S1024x1024 (![] : Fin 0 → Fin S1024x1024.rank)
  bcast_S_S1024 : S_.BroadcastsInDim S1024 (![] : Fin 0 → Fin S1024.rank)

variable [Facts]

def fn_part1 {F : FTy → Type} [FloatOps F] (main_arg6 : FVec F S1024x1024 .f32) (main_arg7 : FVec F S1024 .f32) (main_v2 : IVec S2048x1024 1) (main_v5 : IVec S1024x64 1) (main_v8 : IVec S1024x1024 1) (main_v11 : IVec S1024 1) (main_v14 : IVec S1024x1024 1) (main_v17 : IVec S1024 1) : IVec S2048x1024 1 × IVec S1024x64 1 × IVec S1024x1024 1 × IVec S1024 1 × IVec S1024x1024 1 × IVec S1024 1 × IVec S1024x1024 1 × IVec S1024 1 :=
  let main_v18 : FVec F S1024x1024 .f32 := Host.absf main_arg6
  let main_cst_5 : FVec F S_ .f32 := constant S_ .f32 0x7F800000#32
  let main_v19 : FVec F S1024x1024 .f32 := broadcastInDim S1024x1024 ![] bcast_S_S1024x1024 main_cst_5
  let main_v20 : IVec S1024x1024 1 := cmpf .olt main_v18 main_v19
  let main_v21 : FVec F S1024 .f32 := Host.absf main_arg7
  let main_cst_6 : FVec F S_ .f32 := constant S_ .f32 0x7F800000#32
  let main_v22 : FVec F S1024 .f32 := broadcastInDim S1024 ![] bcast_S_S1024 main_cst_6
  let main_v23 : IVec S1024 1 := cmpf .olt main_v21 main_v22
  (main_v2, main_v5, main_v8, main_v11, main_v14, main_v17, main_v20, main_v23)

def fn {F : FTy → Type} [FloatOps F] (main_arg0 : FVec F S2048x1024 .f32) (main_arg1 : FVec F S1024x64 .f32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_arg10 : FVec F S1024x1024 .f32) (main_arg11 : FVec F S1024 .f32) (main_arg12 : FVec F S1024x1024 .f32) (main_arg13 : FVec F S1024 .f32) : IVec S2048x1024 1 × IVec S1024x64 1 × IVec S1024x1024 1 × IVec S1024 1 × IVec S1024x1024 1 × IVec S1024 1 × IVec S1024x1024 1 × IVec S1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S1024x64 .f32 := Host.absf main_arg1
  let main_cst_0 : FVec F S_ .f32 := constant S_ .f32 0x7F800000#32
  let main_v4 : FVec F S1024x64 .f32 := broadcastInDim S1024x64 ![] bcast_S_S1024x64 main_cst_0
  let main_v5 : IVec S1024x64 1 := cmpf .olt main_v3 main_v4
  let main_v6 : FVec F S1024x1024 .f32 := Host.absf main_arg2
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024x1024 .f32 := Host.absf main_arg4
  let main_cst_3 : FVec F S_ .f32 := constant S_ .f32 0x7F800000#32
  let main_v13 : FVec F S1024x1024 .f32 := broadcastInDim S1024x1024 ![] bcast_S_S1024x1024 main_cst_3
  let main_v14 : IVec S1024x1024 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  fn_part1 (F := F) main_arg6 main_arg7 main_v2 main_v5 main_v8 main_v11 main_v14 main_v17
-- ==== Kernel.lean ====
abbrev S2048x1024 : Shape := ⟨2, ![2048, 1024]⟩
abbrev S1024x64 : Shape := ⟨2, ![1024, 64]⟩
abbrev S1024x1024 : Shape := ⟨2, ![1024, 1024]⟩
abbrev S1024 : Shape := ⟨1, ![1024]⟩
abbrev S64x1024 : Shape := ⟨2, ![64, 1024]⟩
abbrev S_ : Shape := ⟨0, ![]⟩
abbrev S1x1024 : Shape := ⟨2, ![1, 1024]⟩
abbrev S2048x16x1024 : Shape := ⟨3, ![2048, 16, 1024]⟩
abbrev S1x1 : Shape := ⟨2, ![1, 1]⟩
abbrev S128x1024 : Shape := ⟨2, ![128, 1024]⟩
abbrev S128x16x1024 : Shape := ⟨3, ![128, 16, 1024]⟩
abbrev S128x256 : Shape := ⟨2, ![128, 256]⟩
abbrev S128x64 : Shape := ⟨2, ![128, 64]⟩
abbrev S128 : Shape := ⟨1, ![128]⟩
abbrev S128x1 : Shape := ⟨2, ![128, 1]⟩
abbrev S64x256 : Shape := ⟨2, ![64, 256]⟩
abbrev S1x256 : Shape := ⟨2, ![1, 256]⟩
abbrev S1x128x64 : Shape := ⟨3, ![1, 128, 64]⟩
abbrev S1 : Shape := ⟨1, ![1]⟩
abbrev S1x1x1 : Shape := ⟨3, ![1, 1, 1]⟩
abbrev S128x16 : Shape := ⟨2, ![128, 16]⟩
abbrev S128x16x1 : Shape := ⟨3, ![128, 16, 1]⟩
abbrev S1x128x1024 : Shape := ⟨3, ![1, 128, 1024]⟩

abbrev nBuf : Space → Nat
  | .hbm => 29
  | .vmem => 28
  | .smem => 2
  | _ => 0

abbrev bufTy : (tb : Table) → Fin (tcTables nBuf tb) → BufTy
  | .hbm, ⟨0, _⟩ => ⟨S2048x1024, .f32⟩
  | .hbm, ⟨1, _⟩ => ⟨S1024x64, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024, .f32⟩
  | .hbm, ⟨14, _⟩ => ⟨S64x1024, .f32⟩
  | .hbm, ⟨15, _⟩ => ⟨S64x1024, .bf16⟩
  | .hbm, ⟨16, _⟩ => ⟨S_, .bf16⟩
  | .hbm, ⟨17, _⟩ => ⟨S64x1024, .bf16⟩
  | .hbm, ⟨18, _⟩ => ⟨S64x1024, .bf16⟩
  | .hbm, ⟨19, _⟩ => ⟨S1024x64, .bf16⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S2048x1024, .f32⟩
  | .hbm, ⟨27, _⟩ => ⟨S2048x16x1024, .i32⟩
  | .hbm, ⟨28, _⟩ => ⟨S1x1, .f32⟩
  | .local _ .vmem, ⟨0, _⟩ => ⟨S128x1024, .f32⟩
  | .local _ .vmem, ⟨1, _⟩ => ⟨S128x1024, .f32⟩
  | .local _ .vmem, ⟨2, _⟩ => ⟨S64x1024, .f32⟩
  | .local _ .vmem, ⟨3, _⟩ => ⟨S64x1024, .bf16⟩
  | .local _ .vmem, ⟨4, _⟩ => ⟨S1024x64, .bf16⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1x1024, .f32⟩
  | .local _ .vmem, ⟨11, _⟩ => ⟨S1024x1024, .f32⟩
  | .local _ .vmem, ⟨12, _⟩ => ⟨S1x1024, .f32⟩
  | .local _ .vmem, ⟨13, _⟩ => ⟨S1024x1024, .f32⟩
  | .local _ .vmem, ⟨14, _⟩ => ⟨S1x1024, .f32⟩
  | .local _ .vmem, ⟨15, _⟩ => ⟨S1024x1024, .f32⟩
  | .local _ .vmem, ⟨16, _⟩ => ⟨S1x1024, .f32⟩
  | .local _ .vmem, ⟨17, _⟩ => ⟨S128x1024, .f32⟩
  | .local _ .vmem, ⟨18, _⟩ => ⟨S128x1024, .f32⟩
  | .local _ .vmem, ⟨19, _⟩ => ⟨S128x16x1024, .i32⟩
  | .local _ .vmem, ⟨20, _⟩ => ⟨S128x16x1024, .i32⟩
  | .local _ .vmem, ⟨21, _⟩ => ⟨S1x1, .f32⟩
  | .local _ .vmem, ⟨22, _⟩ => ⟨S1024x1024, .bf16⟩
  | .local _ .vmem, ⟨23, _⟩ => ⟨S1024x1024, .bf16⟩
  | .local _ .vmem, ⟨24, _⟩ => ⟨S1024x1024, .bf16⟩
  | .local _ .vmem, ⟨25, _⟩ => ⟨S1024x1024, .bf16⟩
  | .local _ .vmem, ⟨26, _⟩ => ⟨S1024x1024, .bf16⟩
  | .local _ .vmem, ⟨27, _⟩ => ⟨S1024x1024, .bf16⟩
  | .local _ .smem, ⟨0, _⟩ => ⟨S1x1, .f32⟩
  | .local _ .smem, ⟨1, _⟩ => ⟨S1x1, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_v0_0 : Ref sig .tc := ⟨.hbm, 26, rfl⟩
abbrev main_v0_1 : Ref sig .tc := ⟨.hbm, 27, rfl⟩
abbrev main_v0_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg16_1 : Ref sig .tc := ⟨.vmem, 18, rfl⟩
abbrev cc0_stg17_0 : Ref sig .tc := ⟨.vmem, 19, rfl⟩
abbrev cc0_stg17_1 : Ref sig .tc := ⟨.vmem, 20, rfl⟩
abbrev cc0_stg18_0 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_scratch0 : Ref sig .tc := ⟨.smem, 0, rfl⟩
abbrev cc0_scratch1 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem16_1 : DmaSem sig := 18
abbrev cc0_sem17_0 : DmaSem sig := 19
abbrev cc0_sem17_1 : DmaSem sig := 20
abbrev cc0_sem18_0 : DmaSem sig := 21

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v1615 : BitVec 1 := Scalar.cmpi .eq arg0 c15_i32
  let v1616 : BitVec 32 := Scalar.extui v1615
  let c0_i32_430 : BitVec 32 := 0#32
  let v1617 : BitVec 1 := Scalar.cmpi .ne v1616 c0_i32_430
  v1617

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S128x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S128x16x1024 .i32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S1x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== ReferenceIdeal.lean ====
abbrev S2048x1024 : Shape := ⟨2, ![2048, 1024]⟩
abbrev S1024x64 : Shape := ⟨2, ![1024, 64]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S2048x16x64 : Shape := ⟨3, ![2048, 16, 64]⟩
abbrev S2048x16 : Shape := ⟨2, ![2048, 16]⟩
abbrev S2048x16x1 : Shape := ⟨3, ![2048, 16, 1]⟩
abbrev S1x1x1024 : Shape := ⟨3, ![1, 1, 1024]⟩
abbrev S2048x16x1024 : Shape := ⟨3, ![2048, 16, 1024]⟩
abbrev S1x1 : Shape := ⟨2, ![1, 1]⟩

abbrev nBuf : Space → Nat
  | .hbm => 147
  | .vmem => 0
  | .smem => 0
  | _ => 0

abbrev hbmTy0_0 (i : Nat) : BufTy := match i % 128 with
  | 0 => ⟨S2048x1024, .f32⟩
  | 1 => ⟨S1024x64, .f32⟩
  | 2 => ⟨S1024x1024, .f32⟩
  | 3 => ⟨S1024, .f32⟩
  | 4 => ⟨S1024x1024, .f32⟩
  | 5 => ⟨S1024, .f32⟩
  | 6 => ⟨S1024x1024, .f32⟩
  | 7 => ⟨S1024, .f32⟩
  | 8 => ⟨S1024x1024, .f32⟩
  | 9 => ⟨S1024, .f32⟩
  | 10 => ⟨S1024x1024, .f32⟩
  | 11 => ⟨S1024, .f32⟩
  | 12 => ⟨S1024x1024, .f32⟩
  | 13 => ⟨S1024, .f32⟩
  | 14 => ⟨S2048x1024, .f32⟩
  | 15 => ⟨S1x1024, .f32⟩
  | 16 => ⟨S2048x1024, .f32⟩
  | 17 => ⟨S2048x1024, .f32⟩
  | 18 => ⟨S_, .f32⟩
  | 19 => ⟨S2048x1024, .f32⟩
  | 20 => ⟨S2048x1024, .f32⟩
  | 21 => ⟨S2048x1024, .f32⟩
  | 22 => ⟨S_, .f32⟩
  | 23 => ⟨S2048x1024, .f32⟩
  | 24 => ⟨S2048x1024, .f32⟩
  | 25 => ⟨S2048x1024, .f32⟩
  | 26 => ⟨S2048x1024, .f32⟩
  | 27 => ⟨S2048x1024, .f32⟩
  | 28 => ⟨S1x1024, .f32⟩
  | 29 => ⟨S2048x1024, .f32⟩
  | 30 => ⟨S2048x1024, .f32⟩
  | 31 => ⟨S_, .f32⟩
  | 32 => ⟨S2048x1024, .f32⟩
  | 33 => ⟨S2048x1024, .f32⟩
  | 34 => ⟨S2048x1024, .f32⟩
  | 35 => ⟨S_, .f32⟩
  | 36 => ⟨S2048x1024, .f32⟩
  | 37 => ⟨S2048x1024, .f32⟩
  | 38 => ⟨S2048x1024, .f32⟩
  | 39 => ⟨S2048x1024, .f32⟩
  | 40 => ⟨S2048x1024, .f32⟩
  | 41 => ⟨S1x1024, .f32⟩
  | 42 => ⟨S2048x1024, .f32⟩
  | 43 => ⟨S2048x1024, .f32⟩
  | 44 => ⟨S2048x16x64, .f32⟩
  | 45 => ⟨S2048x16x64, .f32⟩
  | 46 => ⟨S_, .f32⟩
  | 47 => ⟨S2048x16, .f32⟩
  | 48 => ⟨S2048x16x1, .f32⟩
  | 49 => ⟨S1024x64, .f32⟩
  | 50 => ⟨S_, .f32⟩
  | 51 => ⟨S1024, .f32⟩
  | 52 => ⟨S1x1x1024, .f32⟩
  | 53 => ⟨S2048x16x1024, .f32⟩
  | 54 => ⟨S2048x16x1024, .f32⟩
  | 55 => ⟨S2048x16x1024, .f32⟩
  | 56 => ⟨S2048x16x1024, .f32⟩
  | 57 => ⟨S_, .f32⟩
  | 58 => ⟨S2048x16x1024, .f32⟩
  | 59 => ⟨S2048x16x1024, .f32⟩
  | 60 => ⟨S2048x16x1024, .f32⟩
  | 61 => ⟨S2048x16x1024, .i32⟩
  | 62 => ⟨S_, .f32⟩
  | 63 => ⟨S_, .i32⟩
  | 64 => ⟨S2048x16, .f32⟩
  | 65 => ⟨S2048x16, .i32⟩
  | 66 => ⟨S2048x16x1, .i32⟩
  | 67 => ⟨S1x1x1024, .i32⟩
  | 68 => ⟨S2048x16x1024, .i32⟩
  | 69 => ⟨S2048x16x1024, .i32⟩
  | 70 => ⟨S2048x16x1024, .i1⟩
  | 71 => ⟨S2048x16x1024, .i32⟩
  | 72 => ⟨S_, .i32⟩
  | 73 => ⟨S2048x16, .i32⟩
  | 74 => ⟨S2048x16, .i1⟩
  | 75 => ⟨S_, .i32⟩
  | 76 => ⟨S2048x16, .i32⟩
  | 77 => ⟨S2048x16, .i32⟩
  | 78 => ⟨S2048x16, .i32⟩
  | 79 => ⟨S2048x16x1, .i32⟩
  | 80 => ⟨S2048x16x64, .f32⟩
  | 81 => ⟨S2048x16x64, .f32⟩
  | 82 => ⟨S2048x16x64, .f32⟩
  | 83 => ⟨S2048x1024, .f32⟩
  | 84 => ⟨S2048x1024, .f32⟩
  | 85 => ⟨S1x1024, .f32⟩
  | 86 => ⟨S2048x1024, .f32⟩
  | 87 => ⟨S2048x1024, .f32⟩
  | 88 => ⟨S_, .f32⟩
  | 89 => ⟨S2048x1024, .f32⟩
  | 90 => ⟨S2048x1024, .f32⟩
  | 91 => ⟨S2048x1024, .f32⟩
  | 92 => ⟨S_, .f32⟩
  | 93 => ⟨S2048x1024, .f32⟩
  | 94 => ⟨S2048x1024, .f32⟩
  | 95 => ⟨S2048x1024, .f32⟩
  | 96 => ⟨S2048x1024, .f32⟩
  | 97 => ⟨S2048x1024, .f32⟩
  | 98 => ⟨S1x1024, .f32⟩
  | 99 => ⟨S2048x1024, .f32⟩
  | 100 => ⟨S2048x1024, .f32⟩
  | 101 => ⟨S_, .f32⟩
  | 102 => ⟨S2048x1024, .f32⟩
  | 103 => ⟨S2048x1024, .f32⟩
  | 104 => ⟨S2048x1024, .f32⟩
  | 105 => ⟨S_, .f32⟩
  | 106 => ⟨S2048x1024, .f32⟩
  | 107 => ⟨S2048x1024, .f32⟩
  | 108 => ⟨S2048x1024, .f32⟩
  | 109 => ⟨S2048x1024, .f32⟩
  | 110 => ⟨S2048x1024, .f32⟩
  | 111 => ⟨S1x1024, .f32⟩
  | 112 => ⟨S2048x1024, .f32⟩
  | 113 => ⟨S2048x1024, .f32⟩
  | 114 => ⟨S2048x1024, .f32⟩
  | 115 => ⟨S2048x1024, .f32⟩
  | 116 => ⟨S_, .f32⟩
  | 117 => ⟨S2048x1024, .f32⟩
  | 118 => ⟨S2048x1024, .f32⟩
  | 119 => ⟨S_, .f32⟩
  | 120 => ⟨S2048x1024, .f32⟩
  | 121 => ⟨S2048x1024, .f32⟩
  | 122 => ⟨S2048x1024, .f32⟩
  | 123 => ⟨S2048x1024, .f32⟩
  | 124 => ⟨S_, .f32⟩
  | 125 => ⟨S_, .f32⟩
  | 126 => ⟨S_, .f32⟩
  | 127 => ⟨S_, .f32⟩
  | _ => ⟨S2048x1024, .f32⟩

abbrev hbmTy0_1 (i : Nat) : BufTy := match i % 128 with
  | 0 => ⟨S2048x16x64, .f32⟩
  | 1 => ⟨S2048x16x64, .f32⟩
  | 2 => ⟨S_, .f32⟩
  | 3 => ⟨S_, .f32⟩
  | 4 => ⟨S_, .f32⟩
  | 5 => ⟨S_, .f32⟩
  | 6 => ⟨S_, .f32⟩
  | 7 => ⟨S2048x16x64, .f32⟩
  | 8 => ⟨S2048x16x64, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S1x1, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_5 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_call0_v0 : Ref sig .tc := ⟨.hbm, 61, rfl⟩
abbrev main_call0_cst : Ref sig .tc := ⟨.hbm, 62, rfl⟩
abbrev main_call0_c : Ref sig .tc := ⟨.hbm, 63, rfl⟩
abbrev main_call0_v1_0 : Ref sig .tc := ⟨.hbm, 64, rfl⟩
abbrev main_v40 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_v41 : Ref sig .tc := ⟨.hbm, 71, rfl⟩
abbrev main_c : Ref sig .tc := ⟨.hbm, 72, rfl⟩
abbrev main_v42 : Ref sig .tc := ⟨.hbm, 73, rfl⟩
abbrev main_v43 : Ref sig .tc := ⟨.hbm, 74, rfl⟩
abbrev main_c_6 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_7 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_8 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_9 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_10 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_cst_11 : Ref sig .tc := ⟨.hbm, 116, rfl⟩
abbrev main_v80 : Ref sig .tc := ⟨.hbm, 117, rfl⟩
abbrev main_v81 : Ref sig .tc := ⟨.hbm, 118, rfl⟩
abbrev main_cst_12 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_13 : Ref sig .tc := ⟨.hbm, 124, rfl⟩
abbrev main_v86 : Ref sig .tc := ⟨.hbm, 125, rfl⟩
abbrev main_cst_14 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_cst_15 : Ref sig .tc := ⟨.hbm, 130, rfl⟩
abbrev main_v90 : Ref sig .tc := ⟨.hbm, 131, rfl⟩
abbrev main_cst_16 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_17 : Ref sig .tc := ⟨.hbm, 137, rfl⟩
abbrev main_v95 : Ref sig .tc := ⟨.hbm, 138, rfl⟩
abbrev main_cst_18 : Ref sig .tc := ⟨.hbm, 139, rfl⟩
abbrev main_v96 : Ref sig .tc := ⟨.hbm, 140, rfl⟩
abbrev main_cst_19 : Ref sig .tc := ⟨.hbm, 141, rfl⟩
abbrev main_v97 : Ref sig .tc := ⟨.hbm, 142, rfl⟩
abbrev main_v98 : Ref sig .tc := ⟨.hbm, 143, rfl⟩
abbrev main_cst_20 : Ref sig .tc := ⟨.hbm, 144, rfl⟩
abbrev main_v99 : Ref sig .tc := ⟨.hbm, 145, rfl⟩
abbrev main_v100 : Ref sig .tc := ⟨.hbm, 146, rfl⟩

abbrev nD : Nat := 1
abbrev τ : Topo := Topo.v7x

variable {F : FTy → Type} [FloatOps F]
-- ==== Proof.RefTerm.lean ====
/- The reference program, stage by stage: each definition below is one stage of the printed host program, as a
   function of the arrays it reads. `RefRun` shows that the program leaves exactly these arrays. -/
module

public import proofs.«01_k».proof.Proof.Gen.ReferenceIdeal
public import Idealize.ShloMosaic.Lib.Claim

@[expose] public section

set_option maxRecDepth 16384

noncomputable section

open Idealize.ShloMosaic Idealize.ShloMosaic.TcCoe Idealize.SL.Sem

namespace Cert.ReferenceIdeal.Stage

open Cert.ReferenceIdeal Cert.ReferenceIdeal.Gen

variable {F : FTy → Type} [FloatOps F]

/-- A dense layer: every row times the weights, plus the bias. -/
def dense (x : FVec F S2048x1024 .f32) (w : FVec F S1024x1024 .f32) (b : FVec F S1024 .f32) : FVec F S2048x1024 .f32 :=
  addf (Host.dotGeneral dot_S2048x1024_S1024x1024_S2048x1024_1_0_0_1_n_n none x w)
    (broadcastInDim S2048x1024 ![0, 1] bcast_S1x1024_S2048x1024_0_1
      (broadcastInDim S1x1024 ![1] bcast_S1024_S1x1024_1 b))

/-- The exact GELU, with the complementary error function. -/
def act (v : FVec F S2048x1024 .f32) : FVec F S2048x1024 .f32 :=
  mulf (mulf (broadcastInDim S2048x1024 ![] bcast_S_S2048x1024 (constant S_ .f32 0x3F000000#32)) v)
    (Host.erfc (mulf (Host.negf v) (broadcastInDim S2048x1024 ![] bcast_S_S2048x1024 (constant S_ .f32 0x3F3504F3#32))))

/-- The encoder: two hidden layers and the latent layer, a row's 1024 latents read as 16 queries of 64. -/
def latents (x : FVec F S2048x1024 .f32) (w1 : FVec F S1024x1024 .f32) (b1 : FVec F S1024 .f32)
    (w2 : FVec F S1024x1024 .f32) (b2 : FVec F S1024 .f32) (w3 : FVec F S1024x1024 .f32) (b3 : FVec F S1024 .f32) :
    FVec F S2048x16x64 .f32 :=
  shapeCast S2048x16x64 (dense (act (dense (act (dense x w1 b1)) w2 b2)) w3 b3) shapeCasts_S2048x1024_S2048x16x64

/-- The squared distances of every latent to every codebook row, expanded. -/
def dists (z : FVec F S2048x16x64 .f32) (e : FVec F S1024x64 .f32) : FVec F S2048x16x1024 .f32 :=
  subf
    (addf
      (broadcastInDim S2048x16x1024 ![0, 1, 2] bcast_S2048x16x1_S2048x16x1024_0_1_2
        (broadcastInDim S2048x16x1 ![0, 1] bcast_S2048x16_S2048x16x1_0_1
          (Host.reduceAdd (mulf z z) (constant S_ .f32 0x00000000#32) reducesTo_S2048x16x64_S2048x16_d2 h_S_)))
      (broadcastInDim S2048x16x1024 ![0, 1, 2] bcast_S1x1x1024_S2048x16x1024_0_1_2
        (broadcastInDim S1x1x1024 ![2] bcast_S1024_S1x1x1024_2
          (Host.reduceAdd (mulf e e) (constant S_ .f32 0x00000000#32) reducesTo_S1024x64_S1024_d1 h_S_))))
    (mulf (broadcastInDim S2048x16x1024 ![] bcast_S_S2048x16x1024 (constant S_ .f32 0x40000000#32))
      (Host.dotGeneral dot_S2048x16x64_S1024x64_S2048x16x1024_2_1_01_0_n_n none z e))

/-- The index of the nearest codebook row. -/
def nearest (d : FVec F S2048x16x1024 .f32) : IVec S2048x16 32 := fun j =>
  (Host.argReduce reducer_argmin_f32_i32 d (iotaInDim S2048x16x1024 32 2) (constant S_ .f32 0x7F800000#32)
    (constantI S_ 32 0#32) reducesTo_S2048x16x1024_S2048x16_d2 h_S_ j).2

/-- The indices as one-hot rows. -/
def hot (k : IVec S2048x16 32) : IVec S2048x16x1024 32 :=
  extui 32
    (cmpi .eq
      (broadcastInDim S2048x16x1024 ![0, 1, 2] bcast_S2048x16x1_S2048x16x1024_0_1_2
        (broadcastInDim S2048x16x1 ![0, 1] bcast_S2048x16_S2048x16x1_0_1 k))
      (broadcastInDim S2048x16x1024 ![0, 1, 2] bcast_S1x1x1024_S2048x16x1024_0_1_2 (iotaInDim S1x1x1024 32 2)))
    natLt_1_32

/-- The codebook rows at the indices (a negative index counted from the end). -/
def looked (e : FVec F S1024x64 .f32) (k : IVec S2048x16 32) : FVec F S2048x16x64 .f32 :=
  Host.gather gather_S1024x64_S2048x16x1_S2048x16x64_2_0_n_n_0_2_164 e
    (broadcastInDim S2048x16x1 ![0, 1] bcast_S2048x16_S2048x16x1_0_1
      (select (cmpi .slt k (broadcastInDim S2048x16 ![] bcast_S_S2048x16 (constantI S_ 32 0#32)))
        (addi k (broadcastInDim S2048x16 ![] bcast_S_S2048x16 (constantI S_ 32 1024#32))) k))

/-- The logistic function. -/
def squash (v : FVec F S2048x1024 .f32) : FVec F S2048x1024 .f32 :=
  Host.divf (broadcastInDim S2048x1024 ![] bcast_S_S2048x1024 (constant S_ .f32 0x3F800000#32))
    (addf (broadcastInDim S2048x1024 ![] bcast_S_S2048x1024 (constant S_ .f32 0x3F800000#32)) (Host.exp (Host.negf v)))

/-- The decoder, on the straight-through latents `z - z + q`. -/
def decoded (z q : FVec F S2048x16x64 .f32) (w4 : FVec F S1024x1024 .f32) (b4 : FVec F S1024 .f32)
    (w5 : FVec F S1024x1024 .f32) (b5 : FVec F S1024 .f32) (w6 : FVec F S1024x1024 .f32) (b6 : FVec F S1024 .f32) :
    FVec F S2048x1024 .f32 :=
  squash (dense (act (dense (act (dense
    (shapeCast S2048x1024 (addf (subf z z) q) shapeCasts_S2048x16x64_S2048x1024) w4 b4)) w5 b5)) w6 b6)

/-- The mean of the squared latent errors. -/
def latentMean (z q : FVec F S2048x16x64 .f32) : FVec F S_ .f32 :=
  Host.divf (Host.reduceAdd (mulf (subf z q) (subf z q)) (constant S_ .f32 0x00000000#32) reducesTo_S2048x16x64_S_d0_1_2 h_S_)
    (constant S_ .f32 0x4A000000#32)

/-- The loss: the mean squared reconstruction error, the mean squared latent error, and a quarter of it again, per row. -/
def lossOf (x y : FVec F S2048x1024 .f32) (z q : FVec F S2048x16x64 .f32) : FVec F S1x1 .f32 :=
  shapeCast S1x1
    (Host.divf
      (addf
        (addf
          (Host.divf (Host.reduceAdd (mulf (subf x y) (subf x y)) (constant S_ .f32 0x00000000#32) reducesTo_S2048x1024_S_d0_1 h_S_)
            (constant S_ .f32 0x4A000000#32))
          (latentMean z q))
        (mulf (constant S_ .f32 0x3E800000#32) (latentMean z q)))
      (constant S_ .f32 0x45000000#32))
    shapeCasts_S_S1x1

end Cert.ReferenceIdeal.Stage

end
-- ==== Proof.RefRun.lean ====
/- What the reference program leaves in its three results: the stages of `RefTerm`, composed. -/
module

public import proofs.«01_k».proof.Proof.RefTerm

@[expose] public section

set_option maxRecDepth 400000

noncomputable section

open Idealize.ShloMosaic Idealize.ShloMosaic.TcCoe Idealize.SL.Sem

namespace Cert.ReferenceIdeal.Stage

open Cert.ReferenceIdeal Cert.ReferenceIdeal.Gen

variable {F : FTy → Type} [FloatOps F]
variable (m : (ℓ : Loc nD τ sig) → Buf (Elt F) ℓ) (c : Dev nD)

/-- An argument of the program, as it stands in the memory at launch. -/
abbrev argX : FVec F S2048x1024 .f32 := m ((c.tc : Thread nD τ).loc main_arg0)
/-- The codebook at launch. -/
abbrev argE : FVec F S1024x64 .f32 := m ((c.tc : Thread nD τ).loc main_arg1)

/-- The latents the program computes. -/
def zOf : FVec F S2048x16x64 .f32 :=
  latents (argX m c) (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
/-- The indices it picks. -/
def kOf : IVec S2048x16 32 := nearest (dists (zOf m c) (argE m c))
/-- The codebook rows it looks up. -/
def qOf : FVec F S2048x16x64 .f32 := looked (argE m c) (kOf m c)
/-- The reconstruction. -/
def yOf : FVec F S2048x1024 .f32 :=
  decoded (zOf m c) (qOf m c) (m ((c.tc : Thread nD τ).loc main_arg8)) (m ((c.tc : Thread nD τ).loc main_arg9))
    (m ((c.tc : Thread nD τ).loc main_arg10)) (m ((c.tc : Thread nD τ).loc main_arg11))
    (m ((c.tc : Thread nD τ).loc main_arg12)) (m ((c.tc : Thread nD τ).loc main_arg13))

set_option maxHeartbeats 2000000 in
/-- Every run of the reference ends with the stages' arrays in its three results, its arguments as they were and
    every counter at zero. -/
theorem run_stages (g : Dev nD → PrngReg) :
    θ_run (defs (F := F)) (onTc (τ := τ) (main (F := F))) ⟨m, fun _ => 0, g⟩ fun r =>
      ∀ c : Dev nD,
        r.2.mem ((c.tc : Thread nD τ).loc main_v83) = yOf m c
        ∧ r.2.mem ((c.tc : Thread nD τ).loc main_v41) = hot (kOf m c)
        ∧ r.2.mem ((c.tc : Thread nD τ).loc main_v100) = lossOf (argX m c) (yOf m c) (zOf m c) (qOf m c)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13) := by
  hlo_run
  all_goals first
    | (show _ = hot _; simp only [StableHlo.TRef.ofBuf_toBuf]; rfl)
    | rfl

end Cert.ReferenceIdeal.Stage

end
-- ==== Proof.Least.lean ====
/- The first place of the least of a row of extended reals: what it is, that it is unique, how the least of two
   neighbouring stretches is the least of both, and how a fold finds it. -/
module

public import Idealize.ShloMosaic.Lib.Pointwise
public import Idealize.ShloMosaic.Lib.Claim

@[expose] public section

noncomputable section

namespace Cert.Least

/-- `i` is the first place, from `lo` up to `hi`, where `f` is least, and `b` is its value there. -/
structure Best (f : ℕ → EReal) (lo hi : ℕ) (b : EReal) (i : ℕ) : Prop where
  above : lo ≤ i
  below : i < hi
  value : f i = b
  least : ∀ k, lo ≤ k → k < hi → b ≤ f k
  first : ∀ k, lo ≤ k → k < i → b < f k

/-- There is only one first place of the least. -/
theorem Best.unique {f : ℕ → EReal} {lo hi : ℕ} {b b' : EReal} {i i' : ℕ} (h : Best f lo hi b i) (h' : Best f lo hi b' i') :
    i = i' := by
  rcases Nat.lt_trichotomy i i' with hlt | heq | hgt
  · have h1 := h'.first i h.above hlt
    have h2 := h.least i' h'.above h'.below
    rw [h'.value] at h2; rw [h.value] at h1
    exact absurd h1 (not_lt.mpr h2)
  · exact heq
  · have h1 := h.first i' h'.above hgt
    have h2 := h'.least i h.above h.below
    rw [h.value] at h2; rw [h'.value] at h1
    exact absurd h1 (not_lt.mpr h2)

/-- Only the values on the stretch matter. -/
theorem Best.congr {f g : ℕ → EReal} {lo hi : ℕ} {b : EReal} {i : ℕ} (h : Best f lo hi b i)
    (hfg : ∀ k, lo ≤ k → k < hi → f k = g k) : Best g lo hi b i where
  above := h.above
  below := h.below
  value := by rw [← hfg i h.above h.below]; exact h.value
  least k h1 h2 := by rw [← hfg k h1 h2]; exact h.least k h1 h2
  first k h1 h2 := by rw [← hfg k h1 (h2.trans h.below)]; exact h.first k h1 h2

/-- A stretch read at an offset. -/
theorem Best.shift {f : ℕ → EReal} {n o : ℕ} {b : EReal} {i : ℕ} (h : Best (fun k => f (o + k)) 0 n b i) :
    Best f o (o + n) b (o + i) where
  above := Nat.le_add_right _ _
  below := Nat.add_lt_add_left h.below _
  value := h.value
  least k h1 h2 := by
    have := h.least (k - o) (Nat.zero_le _) (by omega)
    rwa [show o + (k - o) = k by omega] at this
  first k h1 h2 := by
    have := h.first (k - o) (Nat.zero_le _) (by omega)
    rwa [show o + (k - o) = k by omega] at this

/-- Two neighbouring stretches: the later one wins only if it is strictly less. -/
theorem Best.join {f : ℕ → EReal} {lo mid hi : ℕ} {b b' : EReal} {i i' : ℕ} (h : Best f lo mid b i) (h' : Best f mid hi b' i') :
    Best f lo hi (if b' < b then b' else b) (if b' < b then i' else i) := by
  have hm : lo < mid := h.above.trans_lt h.below
  have hn : mid < hi := h'.above.trans_lt h'.below
  by_cases hlt : b' < b
  · simp only [if_pos hlt]
    refine ⟨hm.le.trans h'.above, h'.below, h'.value, fun k h1 h2 => ?_, fun k h1 h2 => ?_⟩
    · rcases Nat.lt_or_ge k mid with hk | hk
      · exact hlt.le.trans (h.least k h1 hk)
      · exact h'.least k hk h2
    · rcases Nat.lt_or_ge k mid with hk | hk
      · exact hlt.trans_le (h.least k h1 hk)
      · exact h'.first k hk h2
  · simp only [if_neg hlt]
    refine ⟨h.above, h.below.trans hn, h.value, fun k h1 h2 => ?_, h.first⟩
    rcases Nat.lt_or_ge k mid with hk | hk
    · exact h.least k h1 hk
    · exact (not_lt.mp hlt).trans (h'.least k hk h2)

/-- A nonempty stretch has a first place of the least. -/
theorem exists_best (f : ℕ → EReal) (n : ℕ) : ∃ b i, Best f 0 (n + 1) b i := by
  induction n with
  | zero =>
    refine ⟨f 0, 0, le_rfl, Nat.one_pos, rfl, fun k _ h => ?_, fun k _ h => absurd h (Nat.not_lt_zero k)⟩
    rw [show k = 0 by omega]
  | succ n ih =>
    obtain ⟨b, i, h⟩ := ih
    have h1 : Best f (n + 1) (n + 1 + 1) (f (n + 1)) (n + 1) :=
      ⟨le_rfl, Nat.lt_succ_self _, rfl, fun k h1 h2 => by rw [show k = n + 1 by omega], fun k h1 h2 => by omega⟩
    exact ⟨_, _, h.join h1⟩

/-- The first place of the least of a row of 1024. -/
def place (f : ℕ → EReal) : ℕ := (exists_best f 1023).choose_spec.choose

theorem place_best (f : ℕ → EReal) : Best f 0 1024 (exists_best f 1023).choose (place f) :=
  (exists_best f 1023).choose_spec.choose_spec

theorem place_lt (f : ℕ → EReal) : place f < 1024 := (place_best f).below

/-- Whatever is found to be the first place of the least of a row of 1024 is `place`. -/
theorem Best.eq_place {f : ℕ → EReal} {b : EReal} {i : ℕ} (h : Best f 0 1024 b i) : i = place f := h.unique (place_best f)

/-- The least of a nonempty finite row, folded from the top, is the value at the first place of the least. -/
theorem fold_min_eq {n : ℕ} (f : ℕ → EReal) {b : EReal} {i : ℕ} (h : Best f 0 n b i) :
    (Finset.univ : Finset (Fin n)).fold min ⊤ (fun k => f k.val) = b := by
  apply le_antisymm
  · rw [Finset.fold_min_le]
    exact Or.inr ⟨⟨i, h.below⟩, Finset.mem_univ _, h.value.le⟩
  · rw [Finset.le_fold_min]
    exact ⟨le_top, fun k _ => h.least k.val (Nat.zero_le _) k.isLt⟩

end Cert.Least

end
-- ==== Proof.Spec.lean ====
/- The network's mathematics on one row of the input, over the extended reals. Both programs are read against it. -/
module

public import proofs.«01_k».proof.Proof.Least
public import Idealize.ShloMosaic.Lib.Pointwise

@[expose] public section

noncomputable section

open Idealize.ShloMosaic

namespace Cert.Spec

/-- A row of 1024 numbers. -/
abbrev Row := Fin 1024 → EReal
/-- A square table of weights. -/
abbrev Mat := Fin 1024 → Fin 1024 → EReal

/-- One half, as the programs write it. -/
def half : EReal := Ideal.ofBits .f32 0x3F000000#32
/-- The reciprocal square root of two, as the programs write it. -/
def root : EReal := Ideal.ofBits .f32 0x3F3504F3#32
/-- Minus two, as the kernel's codebook copy is scaled. -/
def minusTwo : EReal := Ideal.ofBits .bf16 0xC000#16
/-- The number of latents and of pixels of the whole input. -/
def count : EReal := Ideal.ofBits .f32 0x4A000000#32
/-- The number of rows of the whole input. -/
def rows : EReal := Ideal.ofBits .f32 0x45000000#32
/-- One and a quarter, the weight of the latent error. -/
def fiveQuarters : EReal := Ideal.ofBits .f32 0x3FA00000#32

/-- A dense layer on a row. -/
def layer (w : Mat) (b x : Row) : Row := fun j => (∑ k, x k * w k j) + b j

/-- The GELU. -/
def gelu (v : EReal) : EReal := half * v * (1 + Ideal.erf (v * root))

/-- Three dense layers with a GELU between. -/
def mlp (w1 : Mat) (b1 : Row) (w2 : Mat) (b2 : Row) (w3 : Mat) (b3 x : Row) : Row :=
  layer w3 b3 fun j => gelu (layer w2 b2 (fun k => gelu (layer w1 b1 x k)) j)

/-- Coordinate `d` of query `q` in a row. -/
def cell (q : Fin 16) (d : Fin 64) : Fin 1024 := ⟨64 * q.val + d.val, by omega⟩

/-- Query `q` of a row. -/
def part (z : Row) (q : Fin 16) : Fin 64 → EReal := fun d => z (cell q d)

/-- The squared distance of a query's latents to codebook row `k`, expanded. -/
def dist (u : Fin 64 → EReal) (e : Fin 1024 → Fin 64 → EReal) (k : ℕ) : EReal :=
  if h : k < 1024 then (∑ d, u d * u d) + (∑ d, e ⟨k, h⟩ d * e ⟨k, h⟩ d) + ∑ d, u d * (e ⟨k, h⟩ d * minusTwo) else 0

theorem dist_of_fin (u : Fin 64 → EReal) (e : Fin 1024 → Fin 64 → EReal) (k : Fin 1024) :
    dist u e k.val = (∑ d, u d * u d) + (∑ d, e k d * e k d) + ∑ d, u d * (e k d * minusTwo) := by
  rw [dist, dif_pos k.isLt]

/-- The nearest codebook row, the first one if several are equally near. -/
def pick (u : Fin 64 → EReal) (e : Fin 1024 → Fin 64 → EReal) : Fin 1024 := ⟨Least.place (dist u e), Least.place_lt _⟩

/-- The nearest codebook rows of a row's queries, side by side. -/
def glued (e : Fin 1024 → Fin 64 → EReal) (z : Row) : Row := fun j =>
  e (pick (part z ⟨j.val / 64, by omega⟩) e) ⟨j.val % 64, by omega⟩

/-- The network: the codebook, the encoder's layers and the decoder's. -/
structure Net where
  e : Fin 1024 → Fin 64 → EReal
  w1 : Mat
  b1 : Row
  w2 : Mat
  b2 : Row
  w3 : Mat
  b3 : Row
  w4 : Mat
  b4 : Row
  w5 : Mat
  b5 : Row
  w6 : Mat
  b6 : Row

namespace Net
variable (N : Net)

/-- A row's latents. -/
def latent (x : Row) : Row := mlp N.w1 N.b1 N.w2 N.b2 N.w3 N.b3 x

/-- The codebook row nearest to query `q` of an input row. -/
def code (x : Row) (q : Fin 16) : Fin 1024 := pick (part (N.latent x) q) N.e

/-- A row's reconstruction. -/
def recon (x : Row) : Row := fun j =>
  Ideal.logistic (mlp N.w4 N.b4 N.w5 N.b5 N.w6 N.b6 (glued N.e (N.latent x)) j)

/-- The squared latent error of query `q` of a row. -/
def latentErr (x : Row) (q : Fin 16) : EReal :=
  ∑ d, (N.latent x (cell q d) - N.e (N.code x q) d) * (N.latent x (cell q d) - N.e (N.code x q) d)

/-- A row's squared reconstruction error. -/
def reconErr (x : Row) : EReal := ∑ j, (x j - N.recon x j) * (x j - N.recon x j)

/-- The one-hot entry of category `k` for query `q` of a row. -/
def oneHot (x : Row) (q : Fin 16) (k : Fin 1024) : BitVec 32 :=
  BitVec.setWidth 32 (IntOp.cmpi .eq (BitVec.ofNat 32 k.val) (BitVec.ofNat 32 (N.code x q).val))

/-- The loss of a whole input. -/
def loss (x : Fin 2048 → Row) : EReal :=
  Ideal.div (Ideal.div (∑ r, N.reconErr (x r)) count
    + fiveQuarters * Ideal.div (∑ r, ∑ q, N.latentErr (x r) q) count) rows

end Net

end Cert.Spec

end
-- ==== Proof.Real.lean ====
/- Real numbers among the extended ones: a network whose codebook and encoder are real has real latents on a real row, and
   with real latents the reference's way of writing the distances, the straight-through rows and the loss is the network's. -/
module

public import proofs.«01_k».proof.Proof.Spec

@[expose] public section

noncomputable section

open Idealize.ShloMosaic

namespace Cert.Spec

/-- The extended real is a real number. -/
def IsReal (a : EReal) : Prop := ∃ r : ℝ, (r : EReal) = a

theorem IsReal.add {a b : EReal} (ha : IsReal a) (hb : IsReal b) : IsReal (a + b) := by
  obtain ⟨x, rfl⟩ := ha; obtain ⟨y, rfl⟩ := hb
  exact ⟨x + y, EReal.coe_add x y⟩

theorem IsReal.mul {a b : EReal} (ha : IsReal a) (hb : IsReal b) : IsReal (a * b) := by
  obtain ⟨x, rfl⟩ := ha; obtain ⟨y, rfl⟩ := hb
  exact ⟨x * y, EReal.coe_mul x y⟩

/-- A sum of reals, taken among the extended reals. -/
theorem coe_total {n : ℕ} (f : Fin n → ℝ) : ((∑ k, f k : ℝ) : EReal) = ∑ k, (f k : EReal) :=
  map_sum (⟨⟨fun r : ℝ => (r : EReal), EReal.coe_zero⟩, EReal.coe_add⟩ : ℝ →+ EReal) f Finset.univ

theorem IsReal.sum {n : ℕ} {f : Fin n → EReal} (h : ∀ k, IsReal (f k)) : IsReal (∑ k, f k) := by
  choose g hg using h
  exact ⟨∑ k, g k, by rw [coe_total]; exact Finset.sum_congr rfl fun k _ => hg k⟩

theorem IsReal.erf {a : EReal} (h : IsReal a) : IsReal (Ideal.erf a) := by
  obtain ⟨x, rfl⟩ := h
  exact ⟨_, rfl⟩

theorem half_eq : half = ((1 / 2 : ℝ) : EReal) := by
  unfold half
  simp [Ideal.ofBits, Ideal.ieee, -EReal.coe_mul]
  norm_num

theorem root_real : IsReal root := by
  unfold root
  simp [Ideal.ofBits, Ideal.ieee, -EReal.coe_mul]
  exact ⟨_, rfl⟩

theorem minusTwo_eq : minusTwo = ((-2 : ℝ) : EReal) := by
  unfold minusTwo
  simp [Ideal.ofBits, Ideal.ieee, -EReal.coe_mul, -EReal.coe_neg]
  norm_num

theorem two_eq : Ideal.ofBits .f32 0x40000000#32 = ((2 : ℝ) : EReal) := by
  simp [Ideal.ofBits, Ideal.ieee, -EReal.coe_mul]
  norm_num

theorem fiveQuarters_eq : fiveQuarters = ((5 / 4 : ℝ) : EReal) := by
  unfold fiveQuarters
  simp [Ideal.ofBits, Ideal.ieee, -EReal.coe_mul]
  norm_num

theorem quarter_eq : Ideal.ofBits .f32 0x3E800000#32 = ((1 / 4 : ℝ) : EReal) := by
  simp [Ideal.ofBits, Ideal.ieee, -EReal.coe_mul]
  norm_num

theorem IsReal.gelu {v : EReal} (h : IsReal v) : IsReal (gelu v) := by
  unfold Spec.gelu
  have hh : IsReal half := ⟨_, half_eq.symm⟩
  have h1 : IsReal 1 := ⟨1, EReal.coe_one⟩
  exact (hh.mul h).mul (h1.add (h.mul root_real).erf)

/-- A dense layer of reals. -/
theorem layer_real {w : Mat} {b x : Row} (hw : ∀ k j, IsReal (w k j)) (hb : ∀ j, IsReal (b j)) (hx : ∀ k, IsReal (x k)) (j : Fin 1024) :
    IsReal (layer w b x j) := (IsReal.sum fun k => (hx k).mul (hw k j)).add (hb j)

/-- The codebook and the encoder of a network are real. -/
structure Net.RealEncoder (N : Net) : Prop where
  e : ∀ k d, IsReal (N.e k d)
  w1 : ∀ k j, IsReal (N.w1 k j)
  b1 : ∀ j, IsReal (N.b1 j)
  w2 : ∀ k j, IsReal (N.w2 k j)
  b2 : ∀ j, IsReal (N.b2 j)
  w3 : ∀ k j, IsReal (N.w3 k j)
  b3 : ∀ j, IsReal (N.b3 j)

/-- A real row has real latents. -/
theorem Net.RealEncoder.latent {N : Net} (h : N.RealEncoder) {x : Row} (hx : ∀ k, IsReal (x k)) (j : Fin 1024) :
    IsReal (N.latent x j) :=
  layer_real h.w3 h.b3 (fun k => (layer_real h.w2 h.b2 (fun l => (layer_real h.w1 h.b1 hx l).gelu) k).gelu) j

/-- Distances of reals: twice a product subtracted is the product with minus the double added. -/
theorem dist_eq {u : Fin 64 → EReal} {e : Fin 1024 → Fin 64 → EReal} (hu : ∀ d, IsReal (u d)) (he : ∀ k d, IsReal (e k d))
    (k : Fin 1024) :
    (∑ d, u d * u d) + (∑ d, e k d * e k d) - Ideal.ofBits .f32 0x40000000#32 * ∑ d, u d * e k d = dist u e k.val := by
  rw [dist_of_fin, sub_eq_add_neg]
  congr 1
  choose v hv using hu
  choose f hf using he k
  simp only [← hv, ← hf, two_eq, minusTwo_eq, ← EReal.coe_mul, ← coe_total, ← EReal.coe_neg]
  congr 1
  rw [Finset.mul_sum, ← Finset.sum_neg_distrib]
  exact Finset.sum_congr rfl fun d _ => by ring

/-- A real subtracted from itself leaves what is added to it. -/
theorem self_sub_add {z : EReal} (hz : IsReal z) (q : EReal) : z - z + q = q := by
  obtain ⟨x, rfl⟩ := hz
  rw [← EReal.coe_sub, sub_self, EReal.coe_zero, zero_add]

/-- Once and a quarter of it is one and a quarter times it. -/
theorem once_and_quarter (a b : EReal) : a + b + Ideal.ofBits .f32 0x3E800000#32 * b = a + fiveQuarters * b := by
  rw [add_assoc, quarter_eq, fiveQuarters_eq]
  congr 1
  have h : ((5 / 4 : ℝ) : EReal) = 1 + ((1 / 4 : ℝ) : EReal) := by
    rw [← EReal.coe_one, ← EReal.coe_add]
    norm_num
  rw [h, EReal.right_distrib_of_nonneg zero_le_one (EReal.coe_nonneg.mpr (by norm_num)), one_mul]

end Cert.Spec

end
-- ==== Proof.Finite.lean ====
/- What the precondition says: the input, the codebook and the encoder's arrays hold real numbers. -/
module

public import proofs.«01_k».proof.Defs
public import proofs.«01_k».proof.Proof.Real
public import Idealize.ShloMosaic.Lib.Pointwise

@[expose] public section

noncomputable section

open Idealize.ShloMosaic

namespace Cert.Pre_finite

/-- The precondition's shape relations. -/
theorem facts : Facts where
  bcast_S_S2048x1024 := by decide
  bcast_S_S1024x64 := by decide
  bcast_S_S1024x1024 := by decide
  bcast_S_S1024 := by decide

theorem top_bits : Ideal.ofBits .f32 0x7F800000#32 = ⊤ := by
  simp [Ideal.ofBits, Ideal.ieee]

/-- An array whose entries are all smaller than infinity in absolute value holds real numbers. -/
theorem real_of_finite {s : Shape} (hb : S_.BroadcastsInDim s (![] : Fin 0 → Fin s.rank)) (v : FVec Ideal s .f32)
    (h : cmpf .olt (Host.absf v) (broadcastInDim s ![] hb (constant S_ .f32 0x7F800000#32)) = fun _ => 1#1) (i : s.Idx) :
    Cert.Spec.IsReal (v i) := by
  have hi := congrFun h i
  pointwise at hi
  rw [top_bits, Ideal.absf_def] at hi
  have hlt : max (v i) (-(v i)) < ⊤ := by
    by_contra hn
    rw [decide_eq_false hn] at hi
    exact absurd hi (by decide)
  have ht : v i ≠ ⊤ := (lt_of_le_of_lt (le_max_left _ _) hlt).ne
  have hb : v i ≠ ⊥ := fun hv => by
    rw [hv, EReal.neg_bot, max_eq_right bot_le] at hlt
    exact lt_irrefl _ hlt
  exact ⟨(v i).toReal, EReal.coe_toReal ht hb⟩

end Cert.Pre_finite

end
-- ==== Proof.Body.lean ====
/- What one block of the kernel computes, written once for every query and every quarter of the codebook. The kernel
   spells these sixteen queries out; `BodyRead` shows that what a block leaves is what is written here. -/
module

public import proofs.«01_k».proof.Proof.Gen.KernelIdeal
public import Idealize.ShloMosaic.Lib.Claim

@[expose] public section

set_option maxRecDepth 16384

noncomputable section

open Idealize.ShloMosaic Idealize.ShloMosaic.TcCoe Idealize.SL.Sem

namespace Cert.KernelIdeal.Block

open Cert.KernelIdeal Cert.KernelIdeal.Gen

variable {F : FTy → Type} [FloatOps F]

/-! ## The dense layers -/

/-- A dense layer on a block's rows: the rounded rows times the rounded weights, plus the bias row. -/
def dense (x : FVec F S128x1024 .bf16) (w : FVec F S1024x1024 .bf16) (b : FVec F S1x1024 .f32) : FVec F S128x1024 .f32 :=
  addf (matmul dot_S128x1024_S1024x1024_S128x1024_1_0_0_1_n_n none x w (constant S128x1024 .f32 0x00000000#32))
    (broadcastTo S128x1024 (shapeCast S1x1024 b shapeCasts_S1x1024_S1x1024) broadcasts_S1x1024_S128x1024)

/-- The GELU, written with the error function. -/
def act (v : FVec F S128x1024 .f32) : FVec F S128x1024 .f32 :=
  mulf (mulf (broadcast S128x1024 (Scalar.ofBits .f32 0x3F000000#32)) v)
    (addf (broadcast S128x1024 (Scalar.ofBits .f32 0x3F800000#32))
      (erf (mulf v (broadcast S128x1024 (Scalar.ofBits .f32 0x3F3504F3#32)))))

/-- Rounding a block's rows. -/
def round (v : FVec F S128x1024 .f32) : FVec F S128x1024 .bf16 := truncf .bf16 v bitsLt_bf16_f32

/-- The encoder on a block's rows. -/
def latents (x : FVec F S128x1024 .f32) (w1 : FVec F S1024x1024 .bf16) (b1 : FVec F S1x1024 .f32)
    (w2 : FVec F S1024x1024 .bf16) (b2 : FVec F S1x1024 .f32) (w3 : FVec F S1024x1024 .bf16) (b3 : FVec F S1x1024 .f32) :
    FVec F S128x1024 .f32 :=
  dense (round (act (dense (round (act (dense (round x) w1 b1))) w2 b2))) w3 b3

/-! ## One query -/

/-- A query's 64 columns lie inside the 1024. -/
theorem columns (q : Fin 16) : S128x1024.Slices ![0, 64 * q.val] S128x64 := by revert q; decide
/-- A quarter's 256 columns lie inside the 1024, of the transposed codebook … -/
theorem quarterE (c : Fin 4) : S64x1024.Slices ![0, 256 * c.val] S64x256 := by revert c; decide
/-- … and of the row of its norms. -/
theorem quarterN (c : Fin 4) : S1x1024.Slices ![0, 256 * c.val] S1x256 := by revert c; decide

/-- Query `q`'s latents. -/
def query (q : Fin 16) (z : FVec F S128x1024 .f32) : FVec F S128x64 .f32 :=
  extractStridedSlice S128x64 ![0, 64 * q.val] z (columns q)

/-- The squared norms of a query's latents. -/
def sqNorm (u : FVec F S128x64 .f32) : FVec F S128x1 .f32 :=
  shapeCast S128x1 (multiReduction .add [1] S128 (mulf u u) 0x00000000#32 reduces_S128x64_S128 (.inl rfl) rfl)
    shapeCasts_S128_S128x1

/-- The squared norms of the codebook rows, a row of them. -/
def bookNorm (e : FVec F S64x1024 .f32) : FVec F S1x1024 .f32 :=
  shapeCast S1x1024
    (multiReduction .add [0] S1024
      (mulf (shapeCast S64x1024 e shapeCasts_S64x1024_S64x1024) (shapeCast S64x1024 e shapeCasts_S64x1024_S64x1024))
      0x00000000#32 reduces_S64x1024_S1024 (.inl rfl) rfl)
    shapeCasts_S1024_S1x1024

/-- The distances of a query's latents to quarter `c` of the codebook. -/
def dists (c : Fin 4) (u : FVec F S128x64 .f32) (n : FVec F S1x1024 .f32) (e2 : FVec F S64x1024 .bf16) : FVec F S128x256 .f32 :=
  addf
    (addf (broadcastTo S128x256 (sqNorm u) broadcasts_S128x1_S128x256)
      (broadcastTo S128x256 (extractStridedSlice S1x256 ![0, 256 * c.val] n (quarterN c)) broadcasts_S1x256_S128x256))
    (matmul dot_S128x64_S64x256_S128x256_1_0_0_1_n_n none (truncf .bf16 u bitsLt_bf16_f32)
      (extractStridedSlice S64x256 ![0, 256 * c.val] e2 (quarterE c)) (constant S128x256 .f32 0x00000000#32))

/-- The least distance of each row. -/
def least (d : FVec F S128x256 .f32) : FVec F S128x1 .f32 :=
  shapeCast S128x1 (multiReduction .minimumf [1] S128 d 0x7F800000#32 reduces_S128x256_S128 (.inl rfl) rfl)
    shapeCasts_S128_S128x1

/-- Where each row's least distance stands first, counted from `o`. -/
def leastAt (o : BitVec 32) (d : FVec F S128x256 .f32) : IVec S128x1 32 :=
  addi
    (shapeCast S128x1
      (multiReductionI .minsi [1] S128
        (select (cmpf .oeq d (broadcastTo S128x256 (least d) broadcasts_S128x1_S128x256))
          (iota .tc S128x256 32 [1] iota_S128x256_d1_w32) (broadcast S128x256 256#32))
        2147483647#32 reduces_S128x256_S128 rfl)
      shapeCasts_S128_S128x1)
    (broadcast S128x1 o)

/-- The lesser of a running least and a quarter's. -/
def keepMin (b d : FVec F S128x1 .f32) : FVec F S128x1 .f32 := select (cmpf .olt d b) d b
/-- The index that goes with it. -/
def keepIdx (b d : FVec F S128x1 .f32) (i k : IVec S128x1 32) : IVec S128x1 32 := select (cmpf .olt d b) k i

/-- The index of the nearest codebook row, found quarter by quarter. -/
def nearest (u : FVec F S128x64 .f32) (n : FVec F S1x1024 .f32) (e2 : FVec F S64x1024 .bf16) : IVec S128x1 32 :=
  keepIdx
    (keepMin (keepMin (least (dists 0 u n e2)) (least (dists 1 u n e2))) (least (dists 2 u n e2)))
    (least (dists 3 u n e2))
    (keepIdx (keepMin (least (dists 0 u n e2)) (least (dists 1 u n e2))) (least (dists 2 u n e2))
      (keepIdx (least (dists 0 u n e2)) (least (dists 1 u n e2))
        (leastAt 0#32 (dists 0 u n e2)) (leastAt 256#32 (dists 1 u n e2)))
      (leastAt 512#32 (dists 2 u n e2)))
    (leastAt 768#32 (dists 3 u n e2))

/-- The codebook rows at the indices: a one-hot matrix times the codebook. -/
def looked (k : IVec S128x1 32) (e : FVec F S1024x64 .bf16) : FVec F S128x64 .f32 :=
  matmul dot_S128x1024_S1024x64_S128x64_1_0_0_1_n_n none
    (truncf .bf16
      (sitofp .f32
        (extui 32
          (cmpi .eq (iota .tc S128x1024 32 [1] iota_S128x1024_d1_w32) (broadcastTo S128x1024 k broadcasts_S128x1_S128x1024))
          natLt_1_32))
      bitsLt_bf16_f32)
    (shapeCast S1024x64 e shapeCasts_S1024x64_S1024x64) (constant S128x64 .f32 0x00000000#32)

/-- The sum of the squares of a query's errors. -/
def sqError (u v : FVec F S128x64 .f32) : F .f32 :=
  extractAt ![0, 0, 0]
    (shapeCast S1x1x1
      (multiReduction .add [1, 2] S1
        (shapeCast S1x128x64 (mulf (subf u v) (subf u v)) shapeCasts_S128x64_S1x128x64)
        0x00000000#32 reduces_S1x128x64_S1 (.inl rfl) rfl)
      shapeCasts_S1_S1x1x1)
    inpos_S1x1x1_p0_0_0

/-! ## All queries -/

/-- Query `q`'s indices, from the block's latents, the transposed codebook and its multiple by minus two. -/
def idxOf (z : FVec F S128x1024 .f32) (et : FVec F S64x1024 .f32) (e2 : FVec F S64x1024 .bf16) (q : Fin 16) : IVec S128x1 32 :=
  nearest (query q z) (bookNorm et) (shapeCast S64x1024 e2 shapeCasts_S64x1024_S64x1024)

/-- Query `q`'s codebook rows. -/
def rowsOf (z : FVec F S128x1024 .f32) (et : FVec F S64x1024 .f32) (e2 : FVec F S64x1024 .bf16) (e : FVec F S1024x64 .bf16)
    (q : Fin 16) : FVec F S128x64 .f32 := looked (idxOf z et e2 q) e

/-- The block's squared latent errors, query after query. -/
def errOf (z : FVec F S128x1024 .f32) (et : FVec F S64x1024 .f32) (e2 : FVec F S64x1024 .bf16) (e : FVec F S1024x64 .bf16) :
    ℕ → F .f32
  | 0 => Scalar.ofBits .f32 0x00000000#32
  | n + 1 => Scalar.addf (errOf z et e2 e n)
      (sqError (query (Fin.ofNat 16 n) z) (rowsOf z et e2 e (Fin.ofNat 16 n)))

/-- The sixteen queries' indices, side by side. -/
def idxAll (f : Fin 16 → IVec S128x1 32) : IVec S128x16 32 :=
  concatenate S128x16 1 (List.ofFn fun q : Fin 16 => (⟨S128x1, f q⟩ : (s : Shape) × (s.Idx → BitVec 32))) (by
    rw [List.map_ofFn]; exact (by decide : Shape.Concatenates (List.ofFn fun _ : Fin 16 => S128x1) S128x16 1))

/-- The sixteen queries' codebook rows, side by side. -/
def rowsAll (f : Fin 16 → FVec F S128x64 .f32) : FVec F S128x1024 .f32 :=
  concatenate S128x1024 1 (List.ofFn fun q : Fin 16 => (⟨S128x64, f q⟩ : (s : Shape) × (s.Idx → F .f32))) (by
    rw [List.map_ofFn]; exact (by decide : Shape.Concatenates (List.ofFn fun _ : Fin 16 => S128x64) S128x1024 1))

/-- The one-hot output of a block. -/
def hot (k : IVec S128x16 32) : IVec S128x16x1024 32 :=
  extui 32
    (cmpi .eq (iota .tc S128x16x1024 32 [2] iota_S128x16x1024_d2_w32)
      (broadcastTo S128x16x1024 (shapeCast S128x16x1 k shapeCasts_S128x16_S128x16x1) broadcasts_S128x16x1_S128x16x1024))
    natLt_1_32

/-- The decoder on a block's looked-up rows. -/
def decoded (q : FVec F S128x1024 .f32) (w4 : FVec F S1024x1024 .bf16) (b4 : FVec F S1x1024 .f32)
    (w5 : FVec F S1024x1024 .bf16) (b5 : FVec F S1x1024 .f32) (w6 : FVec F S1024x1024 .bf16) (b6 : FVec F S1x1024 .f32) :
    FVec F S128x1024 .f32 :=
  dense (round (act (dense (round (act (dense (round q) w4 b4))) w5 b5))) w6 b6

/-- The block's reconstruction. -/
def xpOf (q : FVec F S128x1024 .f32) (w4 : FVec F S1024x1024 .bf16) (b4 : FVec F S1x1024 .f32)
    (w5 : FVec F S1024x1024 .bf16) (b5 : FVec F S1x1024 .f32) (w6 : FVec F S1024x1024 .bf16) (b6 : FVec F S1x1024 .f32) :
    FVec F S128x1024 .f32 := logistic (decoded q w4 b4 w5 b5 w6 b6)

/-- The block's squared reconstruction error. -/
def recErr (x y : FVec F S128x1024 .f32) : F .f32 :=
  extractAt ![0, 0, 0]
    (shapeCast S1x1x1
      (multiReduction .add [1, 2] S1
        (shapeCast S1x128x1024 (mulf (subf x y) (subf x y)) shapeCasts_S128x1024_S1x128x1024)
        0x00000000#32 reduces_S1x128x1024_S1 (.inl rfl) rfl)
      shapeCasts_S1_S1x1x1)
    inpos_S1x1x1_p0_0_0

/-- The loss from the two sums of squares. -/
def lossOf (s1 s2 : F .f32) : FVec F S1x1 .f32 :=
  broadcast S1x1
    (Scalar.divf
      (Scalar.addf (Scalar.divf s1 (Scalar.ofBits .f32 0x4A000000#32))
        (Scalar.mulf (Scalar.ofBits .f32 0x3FA00000#32) (Scalar.divf s2 (Scalar.ofBits .f32 0x4A000000#32))))
      (Scalar.ofBits .f32 0x45000000#32))

end Cert.KernelIdeal.Block

end
-- ==== Proof.BodyRead.lean ====
/- What the kernel leaves after each block, in the terms of `Body`: the two blocks of results, the two running sums and
   the rounded copies of the weights that the first block makes and the others find. -/
module

public import proofs.«01_k».proof.Proof.Body
public import proofs.«01_k».proof.Proof.Gen.KernelIdeal.Frame
public import Idealize.ShloMosaic.Lib.Pipeline.ReadBack
public import Idealize.ShloMosaic.Lib.Pipeline.ValueKit

@[expose] public section

set_option maxRecDepth 16384

noncomputable section

open Idealize.ShloMosaic Idealize.ShloMosaic.TcCoe Idealize.SL.Sem

namespace Cert.KernelIdeal.Block

open Cert.KernelIdeal Cert.KernelIdeal.Gen

variable {F : FTy → Type} [FloatOps F]
variable (m : (ℓ : Loc nD τ sig) → Buf (Elt F) ℓ)

/-- A weight window's rounded copy. -/
def roundW (w : FVec F S1024x1024 .f32) : FVec F S1024x1024 .bf16 :=
  shapeCast S1024x1024 (truncf .bf16 w bitsLt_bf16_f32) shapeCasts_S1024x1024_S1024x1024

/-- The six rounded weight copies. -/
structure Copies (F : FTy → Type) where
  w1 : FVec F S1024x1024 .bf16
  w2 : FVec F S1024x1024 .bf16
  w3 : FVec F S1024x1024 .bf16
  w4 : FVec F S1024x1024 .bf16
  w5 : FVec F S1024x1024 .bf16
  w6 : FVec F S1024x1024 .bf16

/-- The copies made of the weight windows at a point. -/
def made (c : Dev nD) (t : Fin cfg0.N) : Copies F :=
  ⟨roundW (iblk m c 4 t), roundW (iblk m c 6 t), roundW (iblk m c 8 t), roundW (iblk m c 10 t), roundW (iblk m c 12 t),
    roundW (iblk m c 14 t)⟩

/-- The copies held after a position. -/
def held (c : Dev nD) (n : ℕ) (hn : n < cfg0.N) : Copies F :=
  let s := outsAt0 m c n hn
  ⟨s.2.2.2.2.2.1, s.2.2.2.2.2.2.1, s.2.2.2.2.2.2.2.1, s.2.2.2.2.2.2.2.2.1, s.2.2.2.2.2.2.2.2.2.1, s.2.2.2.2.2.2.2.2.2.2⟩

/-- A point's latents, with given weight copies. -/
def zAt (w : Copies F) (c : Dev nD) (t : Fin cfg0.N) : FVec F S128x1024 .f32 :=
  latents (iblk m c 0 t) w.w1 (iblk m c 5 t) w.w2 (iblk m c 7 t) w.w3 (iblk m c 9 t)

/-- A point's one-hot block. -/
def zdAt (w : Copies F) (c : Dev nD) (t : Fin cfg0.N) : IVec S128x16x1024 32 :=
  hot (idxAll (idxOf (zAt m w c t) (iblk m c 1 t) (iblk m c 2 t)))

/-- A point's reconstruction block. -/
def xpAt (w : Copies F) (c : Dev nD) (t : Fin cfg0.N) : FVec F S128x1024 .f32 :=
  xpOf (rowsAll (rowsOf (zAt m w c t) (iblk m c 1 t) (iblk m c 2 t) (iblk m c 3 t))) w.w4 (iblk m c 11 t) w.w5 (iblk m c 13 t)
    w.w6 (iblk m c 15 t)

/-- A point's squared reconstruction error. -/
def recAt (w : Copies F) (c : Dev nD) (t : Fin cfg0.N) : F .f32 := recErr (iblk m c 0 t) (xpAt m w c t)

/-- A point's squared latent error. -/
def errAt (w : Copies F) (c : Dev nD) (t : Fin cfg0.N) : F .f32 :=
  errOf (zAt m w c t) (iblk m c 1 t) (iblk m c 2 t) (iblk m c 3 t) 16

/-- The one index of a running sum's cell. -/
abbrev one11 : S1x1.Idx := Shape.Idx.first (by decide : 0 < S1x1.numel)

/-- The position before a point's. -/
theorem before_lt (t : Fin cfg0.N) : t.val - 1 < cfg0.N := Nat.lt_of_le_of_lt (Nat.sub_le _ _) t.isLt

/-- The running sum of the squared reconstruction errors after a position. -/
def s1At (c : Dev nD) (n : ℕ) (hn : n < cfg0.N) : F .f32 := (outsAt0 m c n hn).2.2.2.1 one11
/-- The running sum of the squared latent errors after a position. -/
def s2At (c : Dev nD) (n : ℕ) (hn : n < cfg0.N) : F .f32 := (outsAt0 m c n hn).2.2.2.2.1 one11

/-- What a point leaves, working with the copies `w` and the running sums `a` and `b` before it. -/
structure Leaves (c : Dev nD) (t : Fin cfg0.N) (w : Copies F) (a b : F .f32) : Prop where
  xp : (outsAt0 m c t.val t.isLt).1 = xpAt m w c t
  zd : (outsAt0 m c t.val t.isLt).2.1 = zdAt m w c t
  s1 : s1At m c t.val t.isLt = Scalar.addf a (recAt m w c t)
  s2 : s2At m c t.val t.isLt = Scalar.addf b (errAt m w c t)
  copies : held m c t.val t.isLt = w

/-- The first block makes the copies and starts the sums at zero. -/
theorem leaves_first (c : Dev nD) (t : Fin cfg0.N) (h0 : t.val % 16 = 0) (h1 : ¬t.val % 16 = 15) :
    Leaves m c t (made m c t) (Scalar.ofBits .f32 0x00000000#32) (Scalar.ofBits .f32 0x00000000#32) := by
  refine ⟨?_, ?_, ?_, ?_, ?_⟩ <;> (try unfold s1At) <;> (try unfold s2At) <;> (try unfold held) <;> rw [outsAt0_A m c t h0 h1] <;> frame_out <;> rfl

/-- A block in the middle works with what the block before left. -/
theorem leaves_middle (c : Dev nD) (t : Fin cfg0.N) (h0 : ¬t.val % 16 = 0) (h1 : ¬t.val % 16 = 15) :
    Leaves m c t (held m c (t.val - 1) (before_lt t)) (s1At m c (t.val - 1) (before_lt t)) (s2At m c (t.val - 1) (before_lt t)) := by
  refine ⟨?_, ?_, ?_, ?_, ?_⟩ <;> (try unfold s1At) <;> (try unfold s2At) <;> (try unfold held) <;> rw [outsAt0_B m c t h0 h1] <;> frame_out <;> (try simp only [read_unread_whole]) <;> rfl

/-- So does the last block … -/
theorem leaves_last (c : Dev nD) (t : Fin cfg0.N) (h0 : ¬t.val % 16 = 0) (h1 : t.val % 16 = 15) :
    Leaves m c t (held m c (t.val - 1) (before_lt t)) (s1At m c (t.val - 1) (before_lt t)) (s2At m c (t.val - 1) (before_lt t)) := by
  refine ⟨?_, ?_, ?_, ?_, ?_⟩ <;> (try unfold s1At) <;> (try unfold s2At) <;> (try unfold held) <;> rw [outsAt0_C m c t h0 h1] <;> frame_out <;> (try simp only [read_unread_whole]) <;> rfl

/-- … which also leaves the loss of the two sums. -/
theorem loss_last (c : Dev nD) (t : Fin cfg0.N) (h0 : ¬t.val % 16 = 0) (h1 : t.val % 16 = 15) :
    (outsAt0 m c t.val t.isLt).2.2.1 = lossOf (s1At m c t.val t.isLt) (s2At m c t.val t.isLt) := by
  rw [(leaves_last m c t h0 h1).s1, (leaves_last m c t h0 h1).s2, outsAt0_C m c t h0 h1]
  frame_out
  simp only [read_unread_whole]
  rfl

end Cert.KernelIdeal.Block

end
-- ==== Proof.BlockPoint.lean ====
/- What a block of the kernel computes at one index, over the extended reals: the definitions of `Body`, read. -/
module

public import proofs.«01_k».proof.Proof.Body
public import proofs.«01_k».proof.Proof.Spec
public import Idealize.ShloMosaic.Lib.Pipeline.ValueKit

@[expose] public section

set_option maxRecDepth 16384

noncomputable section

open Idealize.ShloMosaic Idealize.ShloMosaic.TcCoe Idealize.SL.Sem

namespace Cert.KernelIdeal.Block

open Cert.KernelIdeal Cert.KernelIdeal.Gen Cert.Least Cert.Spec

/-! ## Words -/

/-- A small number as a word, read back. -/
theorem toInt_small {k : ℕ} (h : k < 2048) : (BitVec.ofNat 32 k).toInt = k := by
  rw [BitVec.toInt_eq_toNat_of_lt] <;> rw [BitVec.toNat_ofNat, Nat.mod_eq_of_lt (by omega)]
  omega

/-- Signed minimum of words is the minimum of the numbers. -/
theorem toInt_minsi (x y : BitVec 32) : (IntOp.minsi x y).toInt = min x.toInt y.toInt := by
  unfold IntOp.minsi
  by_cases h : x.slt y
  · rw [if_pos h]; rw [BitVec.slt_iff_toInt_lt] at h; exact (min_eq_left h.le).symm
  · rw [if_neg h]; rw [BitVec.slt_iff_toInt_lt] at h; exact (min_eq_right (not_lt.mp h)).symm

/-- A folded signed minimum is the folded minimum of the numbers. -/
theorem toInt_fold {n : ℕ} (b : BitVec 32) (g : Fin n → BitVec 32) :
    ((Finset.univ : Finset (Fin n)).fold IntOp.minsi b g).toInt
      = (Finset.univ : Finset (Fin n)).fold min b.toInt fun k => (g k).toInt :=
  (Finset.fold_hom toInt_minsi).symm

/-! ## The first least entry of a stretch of 256 -/

/-- The least of a stretch and the first place it stands at, as the two folds find them. -/
theorem folds_best (f : ℕ → EReal) :
    ∃ i, Best f 0 256 ((Finset.univ : Finset (Fin 256)).fold min ⊤ fun k => f k.val) i
      ∧ (Finset.univ : Finset (Fin 256)).fold IntOp.minsi 2147483647#32
          (fun k => if f k.val = (Finset.univ : Finset (Fin 256)).fold min ⊤ (fun k => f k.val) then BitVec.ofNat 32 k.val else 256#32)
        = BitVec.ofNat 32 i := by
  obtain ⟨b, i, h⟩ := exists_best f 255
  have hb : (Finset.univ : Finset (Fin 256)).fold min ⊤ (fun k => f k.val) = b := fold_min_eq f h
  rw [hb]
  refine ⟨i, h, BitVec.eq_of_toInt_eq ?_⟩
  have hi : i < 256 := h.below
  rw [toInt_fold, toInt_small (k := i) (by omega)]
  apply le_antisymm
  · rw [Finset.fold_min_le]
    refine Or.inr ⟨⟨i, hi⟩, Finset.mem_univ _, ?_⟩
    rw [if_pos h.value, toInt_small (k := i) (by omega)]
  · rw [Finset.le_fold_min]
    refine ⟨?_, fun k _ => ?_⟩
    · rw [show (2147483647#32).toInt = 2147483647 from by decide]; omega
    · have hk : k.val < 256 := k.isLt
      by_cases hf : f k.val = b
      · rw [if_pos hf, toInt_small (k := k.val) (by omega)]
        by_contra hlt
        have := h.first k.val (Nat.zero_le _) (by omega)
        rw [hf] at this; exact lt_irrefl _ this
      · rw [if_neg hf, show (256#32).toInt = 256 from by decide]; omega

/-- Plus infinity, as the kernel writes it. -/
theorem ofBits_inf : Ideal.ofBits .f32 2139095040#32 = ⊤ := by simp [Ideal.ofBits, Ideal.ieee]

/-- A quarter's least distance and its place. -/
theorem quarter_best (d : FVec Ideal S128x256 .f32) (r : Fin 128) (f : ℕ → EReal) (o : ℕ)
    (hd : ∀ k : Fin 256, d (ix2 r k) = f (o + k.val)) :
    ∃ i, Best f o (o + 256) (least d (ix2 r 0)) i ∧ leastAt (BitVec.ofNat 32 o) d (ix2 r 0) = BitVec.ofNat 32 i := by
  obtain ⟨i, h1, h2⟩ := folds_best fun k => f (o + k)
  have hm : least d (ix2 r 0) = (Finset.univ : Finset (Fin 256)).fold min ⊤ fun k => f (o + k.val) := by
    have : least d (ix2 r 0)
        = (Finset.univ : Finset (Fin 256)).fold min (Ideal.ofBits .f32 2139095040#32) fun k => d (ix2 r k) := by
      pointwise [least]
    rw [this, ofBits_inf]
    exact congrArg (fun g => (Finset.univ : Finset (Fin 256)).fold min ⊤ g) (funext hd)
  refine ⟨o + i, ?_, ?_⟩
  · rw [hm]; exact h1.shift
  · have : leastAt (BitVec.ofNat 32 o) d (ix2 r 0)
        = IntOp.addi ((Finset.univ : Finset (Fin 256)).fold IntOp.minsi 2147483647#32
            fun k => if d (ix2 r k) = (Finset.univ : Finset (Fin 256)).fold min (Ideal.ofBits .f32 2139095040#32) (fun k => d (ix2 r k))
              then BitVec.ofNat 32 k.val else 256#32) (BitVec.ofNat 32 o) := by
      pointwise [leastAt, least]
    rw [this, ofBits_inf]
    simp only [hd]
    rw [h2, Nat.add_comm o i, BitVec.ofNat_add]
    rfl

/-! ## One query -/

theorem dists_apply (c : Fin 4) (u : FVec Ideal S128x64 .f32) (n : FVec Ideal S1x1024 .f32) (e2 : FVec Ideal S64x1024 .bf16)
    (r : Fin 128) (k : Fin 256) :
    dists c u n e2 (ix2 r k)
      = (∑ x : Fin 64, u (ix2 r x) * u (ix2 r x)) + n (ix2 0 ⟨256 * c.val + k.val, by omega⟩)
        + ∑ x : Fin 64, u (ix2 r x) * e2 (ix2 x ⟨256 * c.val + k.val, by omega⟩) := by
  pointwise [dists, sqNorm]

theorem bookNorm_apply (e : FVec Ideal S64x1024 .f32) (j : Fin 1024) :
    bookNorm e (ix2 0 j) = ∑ x : Fin 64, e (ix2 x j) * e (ix2 x j) := by
  pointwise [bookNorm]

theorem query_apply (q : Fin 16) (z : FVec Ideal S128x1024 .f32) (r : Fin 128) (d : Fin 64) :
    query q z (ix2 r d) = z (ix2 r (cell q d)) := by
  pointwise [query]
  first | done | rfl | exact congrArg z (by ext a; fin_cases a <;> rfl)

theorem keepMin_apply (b d : FVec Ideal S128x1 .f32) (r : Fin 128) :
    keepMin b d (ix2 r 0) = if d (ix2 r 0) < b (ix2 r 0) then d (ix2 r 0) else b (ix2 r 0) := by
  pointwise [keepMin]

theorem keepIdx_apply (b d : FVec Ideal S128x1 .f32) (i k : IVec S128x1 32) (r : Fin 128) :
    keepIdx b d i k (ix2 r 0) = if d (ix2 r 0) < b (ix2 r 0) then k (ix2 r 0) else i (ix2 r 0) := by
  pointwise [keepIdx]

/-- Joining a stretch already searched with the next quarter: the kept least and the kept index are those of both. -/
theorem keep_best {f : ℕ → EReal} {lo mid hi i i' : ℕ} {b d : FVec Ideal S128x1 .f32} {k k' : IVec S128x1 32} {r : Fin 128}
    (h : Best f lo mid (b (ix2 r 0)) i ∧ k (ix2 r 0) = BitVec.ofNat 32 i)
    (h' : Best f mid hi (d (ix2 r 0)) i' ∧ k' (ix2 r 0) = BitVec.ofNat 32 i') :
    Best f lo hi (keepMin b d (ix2 r 0)) (if d (ix2 r 0) < b (ix2 r 0) then i' else i)
      ∧ keepIdx b d k k' (ix2 r 0) = BitVec.ofNat 32 (if d (ix2 r 0) < b (ix2 r 0) then i' else i) := by
  rw [keepMin_apply, keepIdx_apply]
  refine ⟨h.1.join h'.1, ?_⟩
  rw [h.2, h'.2]
  split <;> rfl

/-- The four quarters together: the first place of the least of all 1024 distances. -/
theorem nearest_apply (u : FVec Ideal S128x64 .f32) (n : FVec Ideal S1x1024 .f32) (e2 : FVec Ideal S64x1024 .bf16)
    (r : Fin 128) (f : ℕ → EReal)
    (hf : ∀ (c : Fin 4) (k : Fin 256), dists c u n e2 (ix2 r k) = f (256 * c.val + k.val)) :
    nearest u n e2 (ix2 r 0) = BitVec.ofNat 32 (place f) := by
  obtain ⟨i0, h0⟩ := quarter_best (dists 0 u n e2) r f 0 (hf 0)
  obtain ⟨i1, h1⟩ := quarter_best (dists 1 u n e2) r f 256 (hf 1)
  obtain ⟨i2, h2⟩ := quarter_best (dists 2 u n e2) r f 512 (hf 2)
  obtain ⟨i3, h3⟩ := quarter_best (dists 3 u n e2) r f 768 (hf 3)
  have h := keep_best (keep_best (keep_best h0 h1) h2) h3
  rw [← h.1.eq_place]
  exact h.2

/-- A one-hot row times a column picks one entry. -/
theorem sum_pick (k : Fin 1024) (g : Fin 1024 → EReal) :
    (∑ x : Fin 1024, (FloatOps.sitofp .f32 (BitVec.setWidth 32 (IntOp.cmpi .eq (BitVec.ofNat 32 x.val) (BitVec.ofNat 32 k.val))) : Ideal .f32) * g x)
      = g k := by
  rw [Finset.sum_eq_single k]
  · rw [show IntOp.cmpi .eq (BitVec.ofNat 32 k.val) (BitVec.ofNat 32 k.val) = 1#1 from by simp [IntOp.cmpi]]
    rw [show BitVec.setWidth 32 (1#1) = 1#32 from by decide]
    rw [show (FloatOps.sitofp .f32 (1#32) : Ideal .f32) = (1 : EReal) from by simp [FloatOps.sitofp]]
    exact one_mul _
  · intro x _ hx
    have : BitVec.ofNat 32 x.val ≠ BitVec.ofNat 32 k.val := by
      intro h
      have := congrArg BitVec.toNat h
      simp only [BitVec.toNat_ofNat] at this
      exact hx (Fin.ext (by omega))
    rw [show IntOp.cmpi .eq (BitVec.ofNat 32 x.val) (BitVec.ofNat 32 k.val) = 0#1 from by simp [IntOp.cmpi, this]; rw [beq_eq_false_iff_ne.mpr this]; rfl]
    rw [show BitVec.setWidth 32 (0#1) = 0#32 from by decide]
    rw [show (FloatOps.sitofp .f32 (0#32) : Ideal .f32) = (0 : EReal) from by simp [FloatOps.sitofp]]
    exact zero_mul _
  · intro h; exact absurd (Finset.mem_univ k) h

theorem looked_apply (k : IVec S128x1 32) (e : FVec Ideal S1024x64 .bf16) (r : Fin 128) (l : Fin 64) (p : Fin 1024)
    (hk : k (ix2 r 0) = BitVec.ofNat 32 p.val) : looked k e (ix2 r l) = e (ix2 p l) := by
  have : looked k e (ix2 r l)
      = ∑ x : Fin 1024, (FloatOps.sitofp .f32 (BitVec.setWidth 32 (IntOp.cmpi .eq (BitVec.ofNat 32 x.val) (k (ix2 r 0)))) : Ideal .f32) * e (ix2 x l) := by
    pointwise [looked]
  rw [this, hk, sum_pick p fun x => e (ix2 x l)]

theorem sqError_eq (u v : FVec Ideal S128x64 .f32) :
    sqError u v = ∑ r : Fin 128, ∑ d : Fin 64, (u (ix2 r d) - v (ix2 r d)) * (u (ix2 r d) - v (ix2 r d)) := by
  pointwise [sqError]

theorem recErr_eq (u v : FVec Ideal S128x1024 .f32) :
    recErr u v = ∑ r : Fin 128, ∑ d : Fin 1024, (u (ix2 r d) - v (ix2 r d)) * (u (ix2 r d) - v (ix2 r d)) := by
  pointwise [recErr]

theorem hot_apply (f : Fin 16 → IVec S128x1 32) (r : Fin 128) (q : Fin 16) (j : Fin 1024) :
    hot (idxAll f) (ix3 r q j) = BitVec.setWidth 32 (IntOp.cmpi .eq (BitVec.ofNat 32 j.val) (f q (ix2 r 0))) := by
  pointwise [idxAll, hot]

theorem rowsAll_apply (f : Fin 16 → FVec Ideal S128x64 .f32) (r : Fin 128) (j : Fin 1024) :
    rowsAll f (ix2 r j) = f ⟨j.val / 64, by omega⟩ (ix2 r ⟨j.val % 64, by omega⟩) := by
  refine concatenate_ofFn_apply (t := S128x1024) (s₁ := S128x64) 1 f _ rfl 64 rfl (ix2 r j) ⟨j.val / 64, by omega⟩ rfl
    (ix2 r ⟨j.val % 64, by omega⟩) rfl fun b hb => ?_
  fin_cases b
  · rfl
  · exact absurd rfl hb

/-! ## The dense layers -/

theorem dense_apply (x : FVec Ideal S128x1024 .bf16) (w : FVec Ideal S1024x1024 .bf16) (b : FVec Ideal S1x1024 .f32)
    (r : Fin 128) (j : Fin 1024) :
    dense x w b (ix2 r j) = (∑ k : Fin 1024, x (ix2 r k) * w (ix2 k j)) + b (ix2 0 j) := by
  pointwise [dense]

theorem act_apply (v : FVec Ideal S128x1024 .f32) (r : Fin 128) (j : Fin 1024) : act v (ix2 r j) = gelu (v (ix2 r j)) := by
  pointwise [act]
  rfl

/-- Three layers on a block are three layers on each of its rows. -/
theorem three_layers (x : FVec Ideal S128x1024 .f32) (w1 : FVec Ideal S1024x1024 .bf16) (b1 : FVec Ideal S1x1024 .f32)
    (w2 : FVec Ideal S1024x1024 .bf16) (b2 : FVec Ideal S1x1024 .f32) (w3 : FVec Ideal S1024x1024 .bf16)
    (b3 : FVec Ideal S1x1024 .f32) (r : Fin 128) (j : Fin 1024) :
    dense (round (act (dense (round (act (dense (round x) w1 b1))) w2 b2))) w3 b3 (ix2 r j)
      = mlp (fun k l => w1 (ix2 k l)) (fun l => b1 (ix2 0 l)) (fun k l => w2 (ix2 k l)) (fun l => b2 (ix2 0 l))
          (fun k l => w3 (ix2 k l)) (fun l => b3 (ix2 0 l)) (fun k => x (ix2 r k)) j := by
  have hr : ∀ (v : FVec Ideal S128x1024 .f32) (i : S128x1024.Idx), round v i = v i := fun v i => rfl
  simp only [dense_apply, hr, act_apply, mlp, layer]

theorem logistic_at (v : FVec Ideal S128x1024 .f32) (i : S128x1024.Idx) : logistic v i = Ideal.logistic (v i) := rfl

theorem lossOf_apply (a b : Ideal .f32) (i : S1x1.Idx) :
    lossOf a b i = Ideal.div (Ideal.div a count + fiveQuarters * Ideal.div b count) rows := rfl

end Cert.KernelIdeal.Block

end
-- ==== Proof.Blocks.lean ====
/- What each block of the kernel's inputs holds: rows of the input array, the codebook in its three forms, and the
   weights and biases, in the arguments as they stand at launch. -/
module

public import proofs.«01_k».proof.Proof.BodyRead
public import proofs.«01_k».proof.Proof.BlockPoint

@[expose] public section

set_option maxRecDepth 4096

noncomputable section

open Idealize.ShloMosaic Idealize.ShloMosaic.TcCoe Idealize.SL.Sem

namespace Cert.KernelIdeal.Block

open Cert.KernelIdeal Cert.KernelIdeal.Gen Cert.Spec

variable (m : (ℓ : Loc nD τ sig) → Buf (Elt Ideal) ℓ)

/-- Where every input window's block stands: the rows' window moves with the point, the others stay. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0]
    ∧ win0_15.index t = ![0, 0] :=
  (by decide +kernel : ∀ t : Fin grid0.N, _)

/-- The network the kernel's arguments describe. -/
def net (c : Dev nD) : Net where
  e := fun k d => (m ((c : Thread nD τ).loc main_arg1) : FVec Ideal S1024x64 .f32) (ix2 k d)
  w1 := fun k j => (m ((c : Thread nD τ).loc main_arg2) : FVec Ideal S1024x1024 .f32) (ix2 k j)
  b1 := fun j => (m ((c : Thread nD τ).loc main_arg3) : FVec Ideal S1024 .f32) (ix1 j)
  w2 := fun k j => (m ((c : Thread nD τ).loc main_arg4) : FVec Ideal S1024x1024 .f32) (ix2 k j)
  b2 := fun j => (m ((c : Thread nD τ).loc main_arg5) : FVec Ideal S1024 .f32) (ix1 j)
  w3 := fun k j => (m ((c : Thread nD τ).loc main_arg6) : FVec Ideal S1024x1024 .f32) (ix2 k j)
  b3 := fun j => (m ((c : Thread nD τ).loc main_arg7) : FVec Ideal S1024 .f32) (ix1 j)
  w4 := fun k j => (m ((c : Thread nD τ).loc main_arg8) : FVec Ideal S1024x1024 .f32) (ix2 k j)
  b4 := fun j => (m ((c : Thread nD τ).loc main_arg9) : FVec Ideal S1024 .f32) (ix1 j)
  w5 := fun k j => (m ((c : Thread nD τ).loc main_arg10) : FVec Ideal S1024x1024 .f32) (ix2 k j)
  b5 := fun j => (m ((c : Thread nD τ).loc main_arg11) : FVec Ideal S1024 .f32) (ix1 j)
  w6 := fun k j => (m ((c : Thread nD τ).loc main_arg12) : FVec Ideal S1024x1024 .f32) (ix2 k j)
  b6 := fun j => (m ((c : Thread nD τ).loc main_arg13) : FVec Ideal S1024 .f32) (ix1 j)

/-- A row of the input. -/
def rowOf (c : Dev nD) (r : Fin 2048) : Row := fun j =>
  (m ((c : Thread nD τ).loc main_arg0) : FVec Ideal S2048x1024 .f32) (ix2 r j)

/-- Row `r` of point `t`'s block, in the whole input. -/
def rowAt (t : Fin cfg0.N) (r : Fin 128) : Fin 2048 :=
  ⟨128 * t.val + r.val, by have := lt_of_lt_of_eq t.isLt N_0; omega⟩

/-! ## The rows and the codebook -/

theorem rows_block (c : Dev nD) (t : Fin cfg0.N) (r : Fin 128) (j : Fin 1024) :
    (iblk m c 0 t : FVec Ideal S128x1024 .f32) (ix2 r j) = rowOf m c (rowAt t r) j := by
  unfold rowOf rowAt
  blk_simp [iblk]
  rw [V_main_arg0]
  blk_ext [idx t]

/-- The kernel is handed the codebook transposed, … -/
theorem entry_codeT (c : Dev nD) : V m c main_call0_v0
    = (transpose S64x1024 [1, 0] (m ((c : Thread nD τ).loc main_arg1) : FVec Ideal S1024x64 .f32)
        transposes_S1024x64_S64x1024_1_0 : FVec Ideal S64x1024 .f32) := by
  entry_read
  try simp only [StableHlo.TRef.ofBuf_toBuf]
  rfl

theorem codeT_block (c : Dev nD) (t : Fin cfg0.N) (d : Fin 64) (k : Fin 1024) :
    (iblk m c 1 t : FVec Ideal S64x1024 .f32) (ix2 d k) = (net m c).e k d := by
  have h : (win0_1.blk t).view.emb (ix2 d k) = ix2 d k := by blk_ext [idx t]
  unfold net
  blk_simp [iblk]
  rw [entry_codeT, h]
  pointwise

/-- … transposed and multiplied by minus two, … -/
theorem entry_code2 (c : Dev nD) : V m c main_call0_v3
    = (mulf (truncf .bf16 (transpose S64x1024 [1, 0] (m ((c : Thread nD τ).loc main_arg1) : FVec Ideal S1024x64 .f32)
          transposes_S1024x64_S64x1024_1_0) bitsLt_bf16_f32)
        (broadcastInDim S64x1024 ![] bcast_S_S64x1024 (constant S_ .bf16 49152#16)) : FVec Ideal S64x1024 .bf16) := by
  entry_read
  simp only [StableHlo.TRef.ofBuf_toBuf]
  rfl

theorem code2_block (c : Dev nD) (t : Fin cfg0.N) (d : Fin 64) (k : Fin 1024) :
    (iblk m c 2 t : FVec Ideal S64x1024 .bf16) (ix2 d k) = (net m c).e k d * minusTwo := by
  have h : (win0_2.blk t).view.emb (ix2 d k) = ix2 d k := by blk_ext [idx t]
  unfold net
  blk_simp [iblk]
  rw [entry_code2, h]
  pointwise
  rfl

/-- … and as it is. -/
theorem entry_code (c : Dev nD) : V m c main_call0_v4
    = (truncf .bf16 (m ((c : Thread nD τ).loc main_arg1) : FVec Ideal S1024x64 .f32) bitsLt_bf16_f32 : FVec Ideal S1024x64 .bf16) := by
  entry_read
  try simp only [StableHlo.TRef.ofBuf_toBuf]
  rfl

theorem code_block (c : Dev nD) (t : Fin cfg0.N) (k : Fin 1024) (d : Fin 64) :
    (iblk m c 3 t : FVec Ideal S1024x64 .bf16) (ix2 k d) = (net m c).e k d := by
  have h : (win0_3.blk t).view.emb (ix2 k d) = ix2 k d := by blk_ext [idx t]
  unfold net
  blk_simp [iblk]
  rw [entry_code, h]
  pointwise

/-! ## The weights and the biases -/

theorem w1_block (c : Dev nD) (t : Fin cfg0.N) (k j : Fin 1024) :
    (iblk m c 4 t : FVec Ideal S1024x1024 .f32) (ix2 k j) = (net m c).w1 k j := by
  unfold net
  blk_simp [iblk]
  rw [V_main_arg2]
  blk_ext [idx t]

theorem b1_block (c : Dev nD) (t : Fin cfg0.N) (j : Fin 1024) :
    (iblk m c 5 t : FVec Ideal S1x1024 .f32) (ix2 0 j) = (net m c).b1 j := by
  unfold net
  blk_simp [iblk]
  entry_read
  pointwise
  blk_ext [idx t]

theorem w2_block (c : Dev nD) (t : Fin cfg0.N) (k j : Fin 1024) :
    (iblk m c 6 t : FVec Ideal S1024x1024 .f32) (ix2 k j) = (net m c).w2 k j := by
  unfold net
  blk_simp [iblk]
  rw [V_main_arg4]
  blk_ext [idx t]

theorem b2_block (c : Dev nD) (t : Fin cfg0.N) (j : Fin 1024) :
    (iblk m c 7 t : FVec Ideal S1x1024 .f32) (ix2 0 j) = (net m c).b2 j := by
  unfold net
  blk_simp [iblk]
  entry_read
  pointwise
  blk_ext [idx t]

theorem w3_block (c : Dev nD) (t : Fin cfg0.N) (k j : Fin 1024) :
    (iblk m c 8 t : FVec Ideal S1024x1024 .f32) (ix2 k j) = (net m c).w3 k j := by
  unfold net
  blk_simp [iblk]
  rw [V_main_arg6]
  blk_ext [idx t]

theorem b3_block (c : Dev nD) (t : Fin cfg0.N) (j : Fin 1024) :
    (iblk m c 9 t : FVec Ideal S1x1024 .f32) (ix2 0 j) = (net m c).b3 j := by
  unfold net
  blk_simp [iblk]
  entry_read
  pointwise
  blk_ext [idx t]

theorem w4_block (c : Dev nD) (t : Fin cfg0.N) (k j : Fin 1024) :
    (iblk m c 10 t : FVec Ideal S1024x1024 .f32) (ix2 k j) = (net m c).w4 k j := by
  unfold net
  blk_simp [iblk]
  rw [V_main_arg8]
  blk_ext [idx t]

theorem b4_block (c : Dev nD) (t : Fin cfg0.N) (j : Fin 1024) :
    (iblk m c 11 t : FVec Ideal S1x1024 .f32) (ix2 0 j) = (net m c).b4 j := by
  unfold net
  blk_simp [iblk]
  entry_read
  pointwise
  blk_ext [idx t]

theorem w5_block (c : Dev nD) (t : Fin cfg0.N) (k j : Fin 1024) :
    (iblk m c 12 t : FVec Ideal S1024x1024 .f32) (ix2 k j) = (net m c).w5 k j := by
  unfold net
  blk_simp [iblk]
  rw [V_main_arg10]
  blk_ext [idx t]

theorem b5_block (c : Dev nD) (t : Fin cfg0.N) (j : Fin 1024) :
    (iblk m c 13 t : FVec Ideal S1x1024 .f32) (ix2 0 j) = (net m c).b5 j := by
  unfold net
  blk_simp [iblk]
  entry_read
  pointwise
  blk_ext [idx t]

theorem w6_block (c : Dev nD) (t : Fin cfg0.N) (k j : Fin 1024) :
    (iblk m c 14 t : FVec Ideal S1024x1024 .f32) (ix2 k j) = (net m c).w6 k j := by
  unfold net
  blk_simp [iblk]
  rw [V_main_arg12]
  blk_ext [idx t]

theorem b6_block (c : Dev nD) (t : Fin cfg0.N) (j : Fin 1024) :
    (iblk m c 15 t : FVec Ideal S1x1024 .f32) (ix2 0 j) = (net m c).b6 j := by
  unfold net
  blk_simp [iblk]
  entry_read
  pointwise
  blk_ext [idx t]

end Cert.KernelIdeal.Block

end
-- ==== Proof.Carried.lean ====
/- The kernel's points, one after another: every point works with the same weight copies, and the two running sums are
   the sums of the points' squared errors so far. Then what each point leaves, against the network on the rows. -/
module

public import proofs.«01_k».proof.Proof.Blocks

@[expose] public section

set_option maxRecDepth 4096

noncomputable section

open Idealize.ShloMosaic Idealize.ShloMosaic.TcCoe Idealize.SL.Sem

namespace Cert.KernelIdeal.Block

open Cert.KernelIdeal Cert.KernelIdeal.Gen Cert.Spec Cert.Least

variable (m : (ℓ : Loc nD τ sig) → Buf (Elt Ideal) ℓ)

/-! ## The weight copies -/

/-- A table of weights as an array. -/
def table (w : Mat) : FVec Ideal S1024x1024 .bf16 := fun i => w (i 0) (i 1)

theorem table_apply (w : Mat) (k j : Fin 1024) : table w (ix2 k j) = w k j := rfl

/-- A rounded window is the table it holds. -/
theorem roundW_eq (v : FVec Ideal S1024x1024 .f32) (w : Mat) (h : ∀ k j, v (ix2 k j) = w k j) : roundW v = table w := by
  funext i
  idx_vars i
  rw [table_apply, ← h]
  pointwise [roundW]

/-- The copies of the network's weights. -/
def copies (c : Dev nD) : Copies Ideal :=
  ⟨table (net m c).w1, table (net m c).w2, table (net m c).w3, table (net m c).w4, table (net m c).w5, table (net m c).w6⟩

/-- The copies made at any point are the same. -/
theorem made_eq (c : Dev nD) (t : Fin cfg0.N) : made m c t = copies m c := by
  unfold made copies
  rw [roundW_eq _ _ (w1_block m c t), roundW_eq _ _ (w2_block m c t), roundW_eq _ _ (w3_block m c t),
    roundW_eq _ _ (w4_block m c t), roundW_eq _ _ (w5_block m c t), roundW_eq _ _ (w6_block m c t)]

/-! ## The points in order -/

/-- A quantity of a point, for every number. -/
def atPoint (f : Fin cfg0.N → EReal) (n : ℕ) : EReal := if h : n < cfg0.N then f ⟨n, h⟩ else 0

theorem atPoint_of_fin (f : Fin cfg0.N → EReal) (t : Fin cfg0.N) : atPoint f t.val = f t := dif_pos t.isLt

theorem zero_bits : (Scalar.ofBits .f32 0x00000000#32 : Ideal .f32) = (0 : EReal) := by
  show Ideal.ofBits .f32 0x00000000#32 = 0
  simp [Ideal.ofBits, Ideal.ieee]

/-- After every point: the copies are the network's, and the running sums are the sums so far. -/
theorem carried (c : Dev nD) : ∀ (n : ℕ) (hn : n < cfg0.N),
    Leaves m c ⟨n, hn⟩ (copies m c) (∑ k ∈ Finset.range n, atPoint (recAt m (copies m c) c) k)
      (∑ k ∈ Finset.range n, atPoint (errAt m (copies m c) c) k) := by
  intro n
  induction n with
  | zero =>
    intro hn
    have h := leaves_first m c ⟨0, hn⟩ rfl (show ¬(0 % 16 = 15) by decide)
    rw [made_eq, zero_bits] at h
    simpa only [Finset.range_zero, Finset.sum_empty] using h
  | succ n ih =>
    intro hn
    have hp := ih (Nat.lt_of_succ_lt hn)
    have hN : n + 1 < 16 := lt_of_lt_of_eq hn N_0
    have h : Leaves m c ⟨n + 1, hn⟩ (held m c n (Nat.lt_of_succ_lt hn)) (s1At m c n (Nat.lt_of_succ_lt hn))
        (s2At m c n (Nat.lt_of_succ_lt hn)) := by
      by_cases hl : (n + 1) % 16 = 15
      · exact leaves_last m c ⟨n + 1, hn⟩ (by show ¬(n + 1) % 16 = 0; omega) hl
      · exact leaves_middle m c ⟨n + 1, hn⟩ (by show ¬(n + 1) % 16 = 0; omega) hl
    rw [hp.copies, hp.s1, hp.s2] at h
    rw [Finset.sum_range_succ, Finset.sum_range_succ, atPoint_of_fin _ ⟨n, Nat.lt_of_succ_lt hn⟩,
      atPoint_of_fin _ ⟨n, Nat.lt_of_succ_lt hn⟩]
    exact h

/-! ## A point against the network -/

/-- The latents of a point's rows. -/
theorem zAt_apply (c : Dev nD) (t : Fin cfg0.N) (r : Fin 128) (j : Fin 1024) :
    zAt m (copies m c) c t (ix2 r j) = (net m c).latent (rowOf m c (rowAt t r)) j := by
  refine (three_layers _ _ _ _ _ _ _ r j).trans ?_
  unfold Net.latent
  congr 1
  · funext l; exact b1_block m c t l
  · funext l; exact b2_block m c t l
  · funext l; exact b3_block m c t l
  · funext l; exact rows_block m c t r l

/-- The index a query finds, from what the block's latents and the codebook hold. -/
theorem idxOf_apply (z : FVec Ideal S128x1024 .f32) (et : FVec Ideal S64x1024 .f32) (e2 : FVec Ideal S64x1024 .bf16) (q : Fin 16)
    (r : Fin 128) (u : Row) (e : Fin 1024 → Fin 64 → EReal) (hz : ∀ j, z (ix2 r j) = u j) (ht : ∀ d k, et (ix2 d k) = e k d)
    (h2 : ∀ d k, e2 (ix2 d k) = e k d * minusTwo) :
    idxOf z et e2 q (ix2 r 0) = BitVec.ofNat 32 (pick (part u q) e).val := by
  refine nearest_apply _ _ _ r (dist (part u q) e) fun s k => ?_
  have hc : ∀ (d : Fin 64) (l : Fin 1024), shapeCast S64x1024 e2 shapeCasts_S64x1024_S64x1024 (ix2 d l) = e2 (ix2 d l) :=
    fun d l => by pointwise
  rw [dists_apply, bookNorm_apply]
  refine Eq.trans ?_ (dist_of_fin _ _ ⟨256 * s.val + k.val, by omega⟩).symm
  simp only [query_apply, hc, hz, ht, h2, part]

/-- The index a query of a row finds. -/
theorem idx_apply (c : Dev nD) (t : Fin cfg0.N) (q : Fin 16) (r : Fin 128) :
    idxOf (zAt m (copies m c) c t) (iblk m c 1 t) (iblk m c 2 t) q (ix2 r 0)
      = BitVec.ofNat 32 ((net m c).code (rowOf m c (rowAt t r)) q).val :=
  idxOf_apply _ _ _ q r ((net m c).latent (rowOf m c (rowAt t r))) (net m c).e (zAt_apply m c t r) (codeT_block m c t)
    (code2_block m c t)

/-- The codebook row a query of a row looks up. -/
theorem rowsOf_apply (c : Dev nD) (t : Fin cfg0.N) (q : Fin 16) (r : Fin 128) (d : Fin 64) :
    rowsOf (zAt m (copies m c) c t) (iblk m c 1 t) (iblk m c 2 t) (iblk m c 3 t) q (ix2 r d)
      = (net m c).e ((net m c).code (rowOf m c (rowAt t r)) q) d :=
  (looked_apply _ _ r d _ (idx_apply m c t q r)).trans (code_block m c t _ d)

/-- The one-hot block. -/
theorem zdAt_apply (c : Dev nD) (t : Fin cfg0.N) (r : Fin 128) (q : Fin 16) (k : Fin 1024) :
    zdAt m (copies m c) c t (ix3 r q k) = (net m c).oneHot (rowOf m c (rowAt t r)) q k := by
  refine (hot_apply _ r q k).trans ?_
  rw [idx_apply]
  rfl

/-- Three layers and the logistic function, from what the rows and the weights hold. -/
theorem xpOf_apply (x : FVec Ideal S128x1024 .f32) (w1 : FVec Ideal S1024x1024 .bf16) (b1 : FVec Ideal S1x1024 .f32)
    (w2 : FVec Ideal S1024x1024 .bf16) (b2 : FVec Ideal S1x1024 .f32) (w3 : FVec Ideal S1024x1024 .bf16)
    (b3 : FVec Ideal S1x1024 .f32) (r : Fin 128) (j : Fin 1024) :
    xpOf x w1 b1 w2 b2 w3 b3 (ix2 r j)
      = Ideal.logistic (mlp (fun k l => w1 (ix2 k l)) (fun l => b1 (ix2 0 l)) (fun k l => w2 (ix2 k l)) (fun l => b2 (ix2 0 l))
          (fun k l => w3 (ix2 k l)) (fun l => b3 (ix2 0 l)) (fun k => x (ix2 r k)) j) := by
  rw [← three_layers]
  rfl

/-- The reconstruction of a point's rows. -/
theorem xpAt_apply (c : Dev nD) (t : Fin cfg0.N) (r : Fin 128) (j : Fin 1024) :
    xpAt m (copies m c) c t (ix2 r j) = (net m c).recon (rowOf m c (rowAt t r)) j := by
  refine (xpOf_apply _ _ _ _ _ _ _ r j).trans ?_
  unfold Net.recon
  congr 2
  · funext l; exact b4_block m c t l
  · funext l; exact b5_block m c t l
  · funext l; exact b6_block m c t l
  · funext l; exact (rowsAll_apply _ r l).trans (rowsOf_apply m c t _ r _)

/-- A point's squared reconstruction error is that of its rows. -/
theorem recAt_eq (c : Dev nD) (t : Fin cfg0.N) :
    recAt m (copies m c) c t = ∑ r : Fin 128, (net m c).reconErr (rowOf m c (rowAt t r)) := by
  refine (recErr_eq _ _).trans (Finset.sum_congr rfl fun r _ => Finset.sum_congr rfl fun j _ => ?_)
  rw [xpAt_apply, rows_block]

/-- A query's squared latent error is that of the point's rows. -/
theorem sqAt_eq (c : Dev nD) (t : Fin cfg0.N) (q : Fin 16) :
    sqError (query q (zAt m (copies m c) c t)) (rowsOf (zAt m (copies m c) c t) (iblk m c 1 t) (iblk m c 2 t) (iblk m c 3 t) q)
      = ∑ r : Fin 128, (net m c).latentErr (rowOf m c (rowAt t r)) q := by
  refine (sqError_eq _ _).trans (Finset.sum_congr rfl fun r _ => Finset.sum_congr rfl fun d _ => ?_)
  rw [query_apply, zAt_apply, rowsOf_apply]

/-- The queries' errors, added one after another. -/
theorem errOf_sum (z : FVec Ideal S128x1024 .f32) (et : FVec Ideal S64x1024 .f32) (e2 : FVec Ideal S64x1024 .bf16)
    (e : FVec Ideal S1024x64 .bf16) (n : ℕ) :
    errOf z et e2 e n = ∑ q ∈ Finset.range n, (sqError (query (Fin.ofNat 16 q) z) (rowsOf z et e2 e (Fin.ofNat 16 q)) : EReal) := by
  induction n with
  | zero => exact zero_bits
  | succ n ih => rw [Finset.sum_range_succ, ← ih]; rfl

/-- A point's squared latent error is that of its rows. -/
theorem errAt_eq (c : Dev nD) (t : Fin cfg0.N) :
    errAt m (copies m c) c t = ∑ r : Fin 128, ∑ q : Fin 16, (net m c).latentErr (rowOf m c (rowAt t r)) q := by
  refine (errOf_sum _ _ _ _ 16).trans ?_
  rw [Finset.sum_comm, Finset.sum_range]
  refine Finset.sum_congr rfl fun q _ => ?_
  rw [show Fin.ofNat 16 q.val = q from Fin.ext (Nat.mod_eq_of_lt q.isLt)]
  exact sqAt_eq m c t q

end Cert.KernelIdeal.Block

end
-- ==== Proof.Final.lean ====
/- The three results of the kernel after a run: the network's reconstruction and one-hot codes of every row, and its loss. -/
module

public import proofs.«01_k».proof.Proof.Carried
public import proofs.«01_k».proof.Proof.Gen.KernelIdeal.Value

@[expose] public section

set_option maxRecDepth 4096

noncomputable section

open Idealize.ShloMosaic Idealize.ShloMosaic.TcCoe Idealize.SL.Sem
open Idealize.ShloMosaic.Pipeline (Dat)

namespace Cert.KernelIdeal.Block

open Cert.KernelIdeal Cert.KernelIdeal.Gen Cert.Spec

variable (m : (ℓ : Loc nD τ sig) → Buf (Elt Ideal) ℓ)

/-- Where every output window's block stands. -/
theorem outIdx : ∀ t : Fin cfg0.N, win0_16.index t = ![t.val, 0] ∧ win0_17.index t = ![t.val, 0, 0] ∧ win0_18.index t = ![0, 0] :=
  (by decide +kernel : ∀ t : Fin grid0.N, _)

/-- The reconstruction. -/
def xpAll (c : Dev nD) : FVec Ideal S2048x1024 .f32 := fun i => (net m c).recon (rowOf m c (i 0)) (i 1)
/-- The one-hot codes. -/
def zdAll (c : Dev nD) : IVec S2048x16x1024 32 := fun i => (net m c).oneHot (rowOf m c (i 0)) (i 1) (i 2)
/-- The loss. -/
def lossAll (c : Dev nD) : FVec Ideal S1x1 .f32 := fun _ => (net m c).loss (rowOf m c)

/-- The rows of the whole input, block by block. -/
theorem sum_rows (g : Fin 2048 → EReal) : (∑ t : Fin cfg0.N, ∑ r : Fin 128, g (rowAt t r)) = ∑ r, g r := by
  refine Fin.sum_mul_add_congr (fun t r hl => ?_) (congrArg (· * 128) N_0).symm
  exact congrArg g (Fin.ext (by show 128 * t.val + r.val = t.val * 128 + r.val; omega))

/-- A quantity of the points, summed over the numbers up to the last point. -/
theorem sum_points (f : Fin cfg0.N → EReal) (t : Fin cfg0.N) (ht : t.val = 15) :
    (∑ k ∈ Finset.range t.val, atPoint f k) + f t = ∑ t, f t := by
  rw [← atPoint_of_fin f t, ← Finset.sum_range_succ, show t.val + 1 = cfg0.N by rw [ht]; exact N_0.symm, Finset.sum_range]
  exact Finset.sum_congr rfl fun s _ => atPoint_of_fin f s

/-- The first result. -/
theorem xp_final (c : Dev nD) : (dats m 0 c).arrAt 16 cfg0.N = xpAll m c := by
  refine (dats m 0 c).arrAt_eq_of_covers 16 (xpAll m c) (by decide +kernel) fun t _ y => ?_
  blk_simp
  rw [after0_16, (carried m c t.val t.isLt).xp]
  have hy : ∀ y : S128x1024.Idx, xpAt m (copies m c) c t y = (net m c).recon (rowOf m c (rowAt t (y 0))) (y 1) := by
    intro y
    idx_vars y
    exact xpAt_apply m c t _ _
  refine (hy y).trans ?_
  have h0 : rowAt t (y 0) = ((win0_16.blk t).view.emb y) 0 := by
    apply Fin.ext
    show 128 * t.val + (y 0).val = _
    blk_simp [outIdx t]
    omega
  have h1 : y 1 = ((win0_16.blk t).view.emb y) 1 := by
    apply Fin.ext
    blk_simp [outIdx t]
  exact congrArg₂ (fun a b => (net m c).recon (rowOf m c a) b) h0 h1

/-- The second result. -/
theorem zd_final (c : Dev nD) : (dats m 0 c).arrAt 17 cfg0.N = zdAll m c := by
  refine (dats m 0 c).arrAt_eq_of_covers 17 (zdAll m c) (by decide +kernel) fun t _ y => ?_
  blk_simp
  rw [after0_17, (carried m c t.val t.isLt).zd]
  have hy : ∀ y : S128x16x1024.Idx,
      zdAt m (copies m c) c t y = (net m c).oneHot (rowOf m c (rowAt t (y 0))) (y 1) (y 2) := by
    intro y
    idx_vars y
    exact zdAt_apply m c t _ _ _
  refine (hy y).trans ?_
  have h0 : rowAt t (y 0) = ((win0_17.blk t).view.emb y) 0 := by
    apply Fin.ext
    show 128 * t.val + (y 0).val = _
    blk_simp [outIdx t]
    omega
  have h1 : y 1 = ((win0_17.blk t).view.emb y) 1 := by
    apply Fin.ext
    blk_simp [outIdx t]
  have h2 : y 2 = ((win0_17.blk t).view.emb y) 2 := by
    apply Fin.ext
    blk_simp [outIdx t]
  have h12 := congrArg₂ (fun a b => (net m c).oneHot (rowOf m c (rowAt t (y 0))) a b) h1 h2
  exact h12.trans (congrArg (fun r => (net m c).oneHot (rowOf m c r) (((win0_17.blk t).view.emb y) 1) (((win0_17.blk t).view.emb y) 2)) h0)

/-- The running sum of the squared reconstruction errors after the last point. -/
theorem s1_final (c : Dev nD) (t : Fin cfg0.N) (ht : t.val = 15) :
    s1At m c t.val t.isLt = ∑ r, (net m c).reconErr (rowOf m c r) := by
  refine (carried m c t.val t.isLt).s1.trans ((sum_points (recAt m (copies m c) c) t ht).trans ?_)
  rw [← sum_rows]
  exact Finset.sum_congr rfl fun s _ => recAt_eq m c s

/-- The running sum of the squared latent errors after the last point. -/
theorem s2_final (c : Dev nD) (t : Fin cfg0.N) (ht : t.val = 15) :
    s2At m c t.val t.isLt = ∑ r, ∑ q, (net m c).latentErr (rowOf m c r) q := by
  refine (carried m c t.val t.isLt).s2.trans ((sum_points (errAt m (copies m c) c) t ht).trans ?_)
  rw [← sum_rows]
  exact Finset.sum_congr rfl fun s _ => errAt_eq m c s

/-- The third result. -/
theorem loss_final (c : Dev nD) : (dats m 0 c).arrAt 18 cfg0.N = lossAll m c := by
  refine (dats m 0 c).arrAt_eq_of_covers 18 (lossAll m c) (by decide +kernel) fun t hf y => ?_
  have ht : t.val % 16 = 15 := (flush0_18 t).mp hf
  have ht' : t.val = 15 := by have := lt_of_lt_of_eq t.isLt N_0; omega
  blk_simp
  rw [after0_18, loss_last m c t (by omega) ht, s1_final m c t ht', s2_final m c t ht']
  exact lossOf_apply _ _ _

end Cert.KernelIdeal.Block

end
-- ==== Proof.RefPoint.lean ====
/- The reference's stages at one index, over the extended reals: the definitions of `RefTerm`, read. -/
module

public import proofs.«01_k».proof.Proof.RefTerm
public import proofs.«01_k».proof.Proof.Spec
public import Idealize.ShloMosaic.Lib.Pipeline.ValueKit

@[expose] public section

set_option maxRecDepth 4096

noncomputable section

open Idealize.ShloMosaic Idealize.ShloMosaic.TcCoe Idealize.SL.Sem

namespace Cert.ReferenceIdeal.Stage

open Cert.ReferenceIdeal Cert.ReferenceIdeal.Gen Cert.Least Cert.Spec

theorem dense_apply (x : FVec Ideal S2048x1024 .f32) (w : FVec Ideal S1024x1024 .f32) (b : FVec Ideal S1024 .f32)
    (r : Fin 2048) (j : Fin 1024) :
    dense x w b (ix2 r j) = (∑ k : Fin 1024, x (ix2 r k) * w (ix2 k j)) + b (ix1 j) := by
  pointwise [dense]

theorem act_apply (v : FVec Ideal S2048x1024 .f32) (r : Fin 2048) (j : Fin 1024) :
    act v (ix2 r j) = gelu (v (ix2 r j)) := by
  pointwise [act]
  rw [EReal.neg_mul, Ideal.erfc_neg]
  rfl

theorem latents_apply (x : FVec Ideal S2048x1024 .f32) (w1 : FVec Ideal S1024x1024 .f32) (b1 : FVec Ideal S1024 .f32)
    (w2 : FVec Ideal S1024x1024 .f32) (b2 : FVec Ideal S1024 .f32) (w3 : FVec Ideal S1024x1024 .f32)
    (b3 : FVec Ideal S1024 .f32) (r : Fin 2048) (q : Fin 16) (d : Fin 64) :
    latents x w1 b1 w2 b2 w3 b3 (ix3 r q d) = dense (act (dense (act (dense x w1 b1)) w2 b2)) w3 b3 (ix2 r (cell q d)) := by
  unfold latents
  generalize dense (act (dense (act (dense x w1 b1)) w2 b2)) w3 b3 = v
  pointwise
  exact congrArg (fun j => v (ix2 r j)) (Fin.ext (by show q.val * 64 + d.val = 64 * q.val + d.val; omega))

theorem dists_apply (z : FVec Ideal S2048x16x64 .f32) (e : FVec Ideal S1024x64 .f32) (r : Fin 2048) (q : Fin 16)
    (k : Fin 1024) :
    dists z e (ix3 r q k)
      = (∑ d : Fin 64, z (ix3 r q d) * z (ix3 r q d)) + (∑ d : Fin 64, e (ix2 k d) * e (ix2 k d))
        - Ideal.ofBits .f32 0x40000000#32 * ∑ d : Fin 64, z (ix3 r q d) * e (ix2 k d) := by
  pointwise [dists]

theorem hot_apply (k : IVec S2048x16 32) (r : Fin 2048) (q : Fin 16) (j : Fin 1024) :
    hot k (ix3 r q j) = BitVec.setWidth 32 (IntOp.cmpi .eq (k (ix2 r q)) (BitVec.ofNat 32 j.val)) := by
  pointwise [hot]

/-- A look-up by a small non-negative index reads that codebook row. -/
theorem gather_apply (e : FVec Ideal S1024x64 .f32) (k : IVec S2048x16x1 32) (r : Fin 2048) (q : Fin 16) (d : Fin 64) (p : Fin 1024)
    (hk : k (ix3 r q 0) = BitVec.ofNat 32 p.val) :
    Host.gather gather_S1024x64_S2048x16x1_S2048x16x64_2_0_n_n_0_2_164 e k (ix3 r q d) = e (ix2 p d) := by
  unfold Host.gather
  congr 1
  funext a
  refine Fin.ext ?_
  have hp : (BitVec.ofNat 32 p.val).toInt.toNat = p.val := by
    have := p.isLt
    rw [BitVec.toInt_eq_toNat_of_lt] <;> rw [BitVec.toNat_ofNat, Nat.mod_eq_of_lt (by omega)]
    · rfl
    · omega
  show GatherDims.start _ _ k a + GatherDims.batchCoord _ _ a + GatherDims.offCoord _ _ a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    rw [dif_pos (show (⟨0, by decide⟩ : Fin S1024x64.rank) ∈ gather_S1024x64_S2048x16x1_S2048x16x64_2_0_n_n_0_2_164.startIndexMap
      from List.mem_singleton.mpr rfl)]
    have hi : gather_S1024x64_S2048x16x1_S2048x16x64_2_0_n_n_0_2_164.siIdx (ix3 r q d)
        ⟨List.idxOf (⟨0, by decide⟩ : Fin S1024x64.rank) gather_S1024x64_S2048x16x1_S2048x16x64_2_0_n_n_0_2_164.startIndexMap,
          List.idxOf_lt_length_iff.2 (List.mem_singleton.mpr rfl)⟩ = ix3 r q 0 := by
      funext b
      match b with
      | ⟨0, _⟩ => rfl
      | ⟨1, _⟩ => rfl
      | ⟨2, _⟩ => rfl
    rw [hi, hk, hp]
    exact Nat.min_eq_left (Nat.le_of_lt_succ p.isLt)
  | ⟨1, _⟩ =>
    unfold GatherDims.start
    rw [dif_neg (show (⟨1, by decide⟩ : Fin S1024x64.rank) ∉ gather_S1024x64_S2048x16x1_S2048x16x64_2_0_n_n_0_2_164.startIndexMap
      from fun h => absurd (List.mem_singleton.mp h) (by decide)), Nat.zero_add]
    rfl

theorem looked_apply (e : FVec Ideal S1024x64 .f32) (k : IVec S2048x16 32) (r : Fin 2048) (q : Fin 16) (d : Fin 64) (p : Fin 1024)
    (hk : k (ix2 r q) = BitVec.ofNat 32 p.val) : looked e k (ix3 r q d) = e (ix2 p d) := by
  refine gather_apply e _ r q d p ?_
  have hs : ¬(BitVec.ofNat 32 p.val).slt 0#32 = true := by
    have := p.isLt
    rw [BitVec.slt_iff_toInt_lt, BitVec.toInt_eq_toNat_of_lt] <;> rw [BitVec.toNat_ofNat, Nat.mod_eq_of_lt (by omega)]
    · simp
    · omega
  pointwise
  rw [hk, show IntOp.cmpi .slt (BitVec.ofNat 32 p.val) 0#32 = 0#1 from by simp only [IntOp.cmpi, Bool.eq_false_iff.mpr hs]; rfl]
  rfl

theorem squash_apply (v : FVec Ideal S2048x1024 .f32) (r : Fin 2048) (j : Fin 1024) :
    squash v (ix2 r j) = Ideal.logistic (v (ix2 r j)) := by
  pointwise [squash]
  rfl

theorem join_apply (z q : FVec Ideal S2048x16x64 .f32) (r : Fin 2048) (j : Fin 1024) :
    shapeCast S2048x1024 (addf (subf z z) q) shapeCasts_S2048x16x64_S2048x1024 (ix2 r j)
      = z (ix3 r ⟨j.val / 64, by omega⟩ ⟨j.val % 64, by omega⟩) - z (ix3 r ⟨j.val / 64, by omega⟩ ⟨j.val % 64, by omega⟩)
        + q (ix3 r ⟨j.val / 64, by omega⟩ ⟨j.val % 64, by omega⟩) := by
  pointwise

theorem lossOf_apply (x y : FVec Ideal S2048x1024 .f32) (z q : FVec Ideal S2048x16x64 .f32) (i : S1x1.Idx) :
    lossOf x y z q i
      = Ideal.div (Ideal.div (∑ r : Fin 2048, ∑ j : Fin 1024, (x (ix2 r j) - y (ix2 r j)) * (x (ix2 r j) - y (ix2 r j))) count
        + Ideal.div (∑ r : Fin 2048, ∑ p : Fin 16, ∑ d : Fin 64, (z (ix3 r p d) - q (ix3 r p d)) * (z (ix3 r p d) - q (ix3 r p d))) count
        + Ideal.ofBits .f32 0x3E800000#32 * Ideal.div (∑ r : Fin 2048, ∑ p : Fin 16, ∑ d : Fin 64, (z (ix3 r p d) - q (ix3 r p d)) * (z (ix3 r p d) - q (ix3 r p d))) count) rows := by
  idx_vars i
  pointwise [lossOf, latentMean]
  rfl

end Cert.ReferenceIdeal.Stage

end
-- ==== Proof.RefLeast.lean ====
/- The reference's search for the nearest codebook row: its fold over the categories finds the first place of the least. -/
module

public import proofs.«01_k».proof.Proof.RefTerm
public import proofs.«01_k».proof.Proof.Spec
public import Idealize.ShloMosaic.Lib.Pipeline.ValueKit

@[expose] public section

set_option maxRecDepth 4096

noncomputable section

open Idealize.ShloMosaic Idealize.ShloMosaic.TcCoe Idealize.SL.Sem

namespace Cert.ReferenceIdeal.Stage

open Cert.ReferenceIdeal Cert.ReferenceIdeal.Gen Cert.Least Cert.Spec

/-- A value with its index. -/
abbrev Entry := EReal × BitVec 32

/-- One entry comes no later than another: a lesser value, or the same value at no greater index. -/
def Entry.below (a b : Entry) : Prop := a.1 < b.1 ∨ a.1 = b.1 ∧ a.2.toInt ≤ b.2.toInt

theorem Entry.below_refl (a : Entry) : a.below a := Or.inr ⟨rfl, le_rfl⟩

theorem Entry.below_trans {a b c : Entry} (h : a.below b) (h' : b.below c) : a.below c := by
  rcases h with h | ⟨h, i⟩ <;> rcases h' with h' | ⟨h', i'⟩
  · exact Or.inl (h.trans h')
  · exact Or.inl (h' ▸ h)
  · exact Or.inl (h ▸ h')
  · exact Or.inr ⟨h.trans h', i.trans i'⟩

/-- The reducer keeps one of the two entries, and the one it keeps comes no later than either. -/
theorem reducer_spec (a b : Entry) :
    (reducer_argmin_f32_i32 (F := Ideal) a b = a ∨ reducer_argmin_f32_i32 (F := Ideal) a b = b)
      ∧ Entry.below (reducer_argmin_f32_i32 (F := Ideal) a b) a ∧ Entry.below (reducer_argmin_f32_i32 (F := Ideal) a b) b := by
  obtain ⟨x, i⟩ := a
  obtain ⟨y, j⟩ := b
  have hr : reducer_argmin_f32_i32 (F := Ideal) (x, i) (y, j)
      = if x < y ∨ x = y ∧ i.toInt < j.toInt then (x, i) else (y, j) := by
    unfold reducer_argmin_f32_i32
    simp only [Ideal.cmpf_def, Ideal.cmp, IntOp.cmpi, IntOp.ori, IntOp.andi, Scalar.select]
    rcases lt_trichotomy x y with h | h | h
    · simp [h, h.ne]
    · subst h
      by_cases hij : i.toInt < j.toInt
      · have hs : i.slt j = true := BitVec.slt_iff_toInt_lt.mpr hij
        simp [hij, hs]
      · have hs : i.slt j = false := Bool.eq_false_iff.mpr fun h => hij (BitVec.slt_iff_toInt_lt.mp h)
        simp [hij, hs]
    · simp [h.not_gt, h.ne']
  rw [hr]
  split
  · rename_i h
    refine ⟨Or.inl rfl, Entry.below_refl _, ?_⟩
    rcases h with h | ⟨h, hij⟩
    · exact Or.inl h
    · exact Or.inr ⟨h, hij.le⟩
  · rename_i h
    refine ⟨Or.inr rfl, ?_, Entry.below_refl _⟩
    rcases lt_trichotomy x y with hlt | heq | hgt
    · exact absurd (Or.inl hlt) h
    · exact Or.inr ⟨heq.symm, not_lt.mp fun hij => h (Or.inr ⟨heq, hij⟩)⟩
    · exact Or.inl hgt

/-- The fold of the reducer over a list: an entry of the list or the one it began with, and none comes earlier. -/
theorem fold_spec (l : List Entry) : ∀ a : Entry,
    (l.foldl (reducer_argmin_f32_i32 (F := Ideal)) a = a ∨ l.foldl (reducer_argmin_f32_i32 (F := Ideal)) a ∈ l)
      ∧ Entry.below (l.foldl (reducer_argmin_f32_i32 (F := Ideal)) a) a
      ∧ ∀ b ∈ l, Entry.below (l.foldl (reducer_argmin_f32_i32 (F := Ideal)) a) b := by
  induction l with
  | nil => exact fun a => ⟨Or.inl rfl, Entry.below_refl a, fun b h => absurd h List.not_mem_nil⟩
  | cons b l ih =>
    intro a
    obtain ⟨h1, h2, h3⟩ := reducer_spec a b
    obtain ⟨g1, g2, g3⟩ := ih (reducer_argmin_f32_i32 (F := Ideal) a b)
    rw [List.foldl_cons]
    refine ⟨?_, Entry.below_trans g2 h2, fun c hc => ?_⟩
    · rcases g1 with g1 | g1
      · rcases h1 with h1 | h1
        · exact Or.inl (g1.trans h1)
        · exact Or.inr (by rw [g1, h1]; exact List.mem_cons_self)
      · exact Or.inr (List.mem_cons_of_mem _ g1)
    · rcases List.mem_cons.mp hc with rfl | hc
      · exact Entry.below_trans g2 h3
      · exact g3 c hc

/-- The fold over a list holding exactly the entries of a row of 1024 finds the first place of the least. -/
theorem fold_place (f : ℕ → EReal) (l : List Entry) (hl : ∀ a ∈ l, ∃ k : Fin 1024, a = (f k.val, BitVec.ofNat 32 k.val))
    (hf : ∀ k : Fin 1024, (f k.val, BitVec.ofNat 32 k.val) ∈ l) :
    (l.foldl (reducer_argmin_f32_i32 (F := Ideal)) (⊤, 0#32)).2 = BitVec.ofNat 32 (place f) := by
  obtain ⟨h1, h2, h3⟩ := fold_spec l (⊤, 0#32)
  generalize l.foldl (reducer_argmin_f32_i32 (F := Ideal)) (⊤, 0#32) = p at h1 h2 h3
  have hs : ∀ k : ℕ, k < 1024 → (BitVec.ofNat 32 k).toInt = k := by
    intro k hk
    rw [BitVec.toInt_eq_toNat_of_lt] <;> rw [BitVec.toNat_ofNat, Nat.mod_eq_of_lt (by omega)]
    omega
  have hk : ∃ k : Fin 1024, p = (f k.val, BitVec.ofNat 32 k.val) := by
    rcases h1 with h1 | h1
    · refine ⟨0, ?_⟩
      have h0 := h3 _ (hf 0)
      rw [h1] at h0 ⊢
      rcases h0 with h0 | ⟨h0, _⟩
      · exact absurd h0 not_top_lt
      · exact Prod.ext h0 rfl
    · exact hl p h1
  obtain ⟨k, rfl⟩ := hk
  have hb : Best f 0 1024 (f k.val) k.val := by
    refine ⟨Nat.zero_le _, k.isLt, rfl, fun j _ hj => ?_, fun j _ hj => ?_⟩
    · rcases h3 _ (hf ⟨j, hj⟩) with h | ⟨h, _⟩
      · exact h.le
      · exact h.le
    · rcases h3 _ (hf ⟨j, hj.trans k.isLt⟩) with h | ⟨_, h⟩
      · exact h
      · simp only [hs k.val k.isLt, hs j (hj.trans k.isLt)] at h
        omega
  rw [← hb.eq_place]

/-- The entries a search runs through for one result index: those of the operand's indices that keep to it. -/
theorem mem_fiber {α β : Type} {s t : Shape} {axes : List (Fin s.rank)} (x : s.Idx → α) (y : s.Idx → β) (h : s.ReducesTo axes t)
    (j : t.Idx) (a : α × β) : a ∈ Host.argReduceFiber x y h j ↔ ∃ i : s.Idx, h.drop i = j ∧ a = (x i, y i) := by
  unfold Host.argReduceFiber
  simp only [List.mem_map, List.mem_filter, decide_eq_true_eq]
  constructor
  · rintro ⟨n, ⟨_, hn⟩, rfl⟩
    exact ⟨_, hn, rfl⟩
  · rintro ⟨i, hi, rfl⟩
    exact ⟨s.rowMajor i, ⟨List.mem_finRange _, by rw [Equiv.symm_apply_apply]; exact hi⟩, by rw [Equiv.symm_apply_apply]⟩

/-- A search over the entries of a row of 1024, begun above them all, finds the first place of the least. -/
theorem search_place {s t u : Shape} {axes : List (Fin s.rank)} (x : FVec Ideal s .f32) (y : IVec s 32) (ix : FVec Ideal u .f32)
    (iy : IVec u 32) (h : s.ReducesTo axes t) (hu : 0 < u.numel) (g : IVec t 32)
    (hg : g = fun j => (Host.argReduce (reducer_argmin_f32_i32 (F := Ideal)) x y ix iy h hu j).2) (j : t.Idx) (f : ℕ → EReal)
    (hx : ix (Shape.Idx.first hu) = (⊤ : EReal)) (hy : iy (Shape.Idx.first hu) = 0#32)
    (hall : ∀ i : s.Idx, h.drop i = j → ∃ k : Fin 1024, x i = f k.val ∧ y i = BitVec.ofNat 32 k.val)
    (hex : ∀ k : Fin 1024, ∃ i : s.Idx, h.drop i = j ∧ x i = f k.val ∧ y i = BitVec.ofNat 32 k.val) :
    g j = BitVec.ofNat 32 (place f) := by
  subst hg
  show (Host.argReduce (reducer_argmin_f32_i32 (F := Ideal)) x y ix iy h hu j).2 = _
  rw [Ideal.argReduce_eq_reduce2, Host.reduce2_eq_foldl_fiber, hx, hy]
  refine fold_place f _ (fun a ha => ?_) fun k => ?_
  · obtain ⟨i, hi, rfl⟩ := (mem_fiber _ _ _ _ _).mp ha
    obtain ⟨k, h1, h2⟩ := hall i hi
    exact ⟨k, Prod.ext h1 h2⟩
  · obtain ⟨i, hi, h1, h2⟩ := hex k
    exact (mem_fiber _ _ _ _ _).mpr ⟨i, hi, Prod.ext h1.symm h2.symm⟩

/-- The category of an index is what the search drops. -/
theorem drop_apply (r : Fin 2048) (q : Fin 16) (k : Fin 1024) :
    reducesTo_S2048x16x1024_S2048x16_d2.drop (ix3 r q k) = ix2 r q := by
  funext b
  match b with
  | ⟨0, _⟩ => rfl
  | ⟨1, _⟩ => rfl

/-- The reference's indices are what its search leaves. -/
theorem nearest_eq (d : FVec Ideal S2048x16x1024 .f32) :
    nearest d = fun j => (Host.argReduce (reducer_argmin_f32_i32 (F := Ideal)) d (iotaInDim S2048x16x1024 32 2)
      (constant S_ .f32 0x7F800000#32) (constantI S_ 32 0#32) reducesTo_S2048x16x1024_S2048x16_d2 h_S_ j).2 := by
  delta nearest
  exact Eq.refl _

/-- The index the reference finds for a query of a row. -/
theorem nearest_apply (d : FVec Ideal S2048x16x1024 .f32) (r : Fin 2048) (q : Fin 16) (f : ℕ → EReal)
    (hd : ∀ k : Fin 1024, d (ix3 r q k) = f k.val) : nearest d (ix2 r q) = BitVec.ofNat 32 (place f) := by
  have hi : (constant S_ .f32 0x7F800000#32 : FVec Ideal S_ .f32) (Shape.Idx.first h_S_) = (⊤ : EReal) := by
    show Ideal.ofBits .f32 0x7F800000#32 = ⊤
    simp [Ideal.ofBits, Ideal.ieee]
  have hy : ∀ i : Fin 1024, iotaInDim S2048x16x1024 32 2 (ix3 r q i) = BitVec.ofNat 32 i.val := fun i => rfl
  have hall : ∀ i : S2048x16x1024.Idx, reducesTo_S2048x16x1024_S2048x16_d2.drop i = ix2 r q →
      ∃ k : Fin 1024, d i = f k.val ∧ iotaInDim S2048x16x1024 32 2 i = BitVec.ofNat 32 k.val := by
    intro i hi
    idx_vars i
    rw [drop_apply] at hi
    have h0 : i0 = r := congrFun hi 0
    have h1 : i1 = q := congrFun hi 1
    subst h0 h1
    exact ⟨i2, hd i2, hy i2⟩
  exact search_place d _ _ _ _ _ (nearest d) (nearest_eq d) (ix2 r q) f hi rfl hall
    fun k => ⟨ix3 r q k, drop_apply r q k, hd k, hy k⟩

end Cert.ReferenceIdeal.Stage

end
-- ==== Proof.RefNet.lean ====
/- The reference's three results, against the network its arguments describe: with a real input, codebook and encoder they
   are the network's reconstruction, one-hot codes and loss. -/
module

public import proofs.«01_k».proof.Proof.RefRun
public import proofs.«01_k».proof.Proof.RefPoint
public import proofs.«01_k».proof.Proof.RefLeast
public import proofs.«01_k».proof.Proof.Real

@[expose] public section

set_option maxRecDepth 4096

noncomputable section

open Idealize.ShloMosaic Idealize.ShloMosaic.TcCoe Idealize.SL.Sem

namespace Cert.ReferenceIdeal.Stage

open Cert.ReferenceIdeal Cert.ReferenceIdeal.Gen Cert.Least Cert.Spec

/-- Three layers on all rows are three layers on each row. -/
theorem three_layers (x : FVec Ideal S2048x1024 .f32) (w1 : FVec Ideal S1024x1024 .f32) (b1 : FVec Ideal S1024 .f32)
    (w2 : FVec Ideal S1024x1024 .f32) (b2 : FVec Ideal S1024 .f32) (w3 : FVec Ideal S1024x1024 .f32)
    (b3 : FVec Ideal S1024 .f32) (r : Fin 2048) (j : Fin 1024) :
    dense (act (dense (act (dense x w1 b1)) w2 b2)) w3 b3 (ix2 r j)
      = mlp (fun k l => w1 (ix2 k l)) (fun l => b1 (ix1 l)) (fun k l => w2 (ix2 k l)) (fun l => b2 (ix1 l))
          (fun k l => w3 (ix2 k l)) (fun l => b3 (ix1 l)) (fun k => x (ix2 r k)) j := by
  simp only [dense_apply, act_apply, mlp, layer]

/-- The stages on given arrays, as functions of what the arrays hold. -/
theorem decoded_apply (z q : FVec Ideal S2048x16x64 .f32) (w4 : FVec Ideal S1024x1024 .f32) (b4 : FVec Ideal S1024 .f32)
    (w5 : FVec Ideal S1024x1024 .f32) (b5 : FVec Ideal S1024 .f32) (w6 : FVec Ideal S1024x1024 .f32)
    (b6 : FVec Ideal S1024 .f32) (r : Fin 2048) (g : Row)
    (hz : ∀ p d, IsReal (z (ix3 r p d)))
    (hq : ∀ j : Fin 1024, q (ix3 r ⟨j.val / 64, by omega⟩ ⟨j.val % 64, by omega⟩) = g j) (j : Fin 1024) :
    decoded z q w4 b4 w5 b5 w6 b6 (ix2 r j)
      = Ideal.logistic (mlp (fun k l => w4 (ix2 k l)) (fun l => b4 (ix1 l)) (fun k l => w5 (ix2 k l)) (fun l => b5 (ix1 l))
          (fun k l => w6 (ix2 k l)) (fun l => b6 (ix1 l)) g j) := by
  unfold decoded
  rw [squash_apply, three_layers]
  congr 2
  funext k
  rw [join_apply, self_sub_add (hz _ _), hq]

variable (m : (ℓ : Loc nD τ sig) → Buf (Elt Ideal) ℓ) (c : Dev nD)

/-- The network the reference's arguments describe. -/
def net : Net where
  e := fun k d => argE m c (ix2 k d)
  w1 := fun k j => (m ((c.tc : Thread nD τ).loc main_arg2) : FVec Ideal S1024x1024 .f32) (ix2 k j)
  b1 := fun j => (m ((c.tc : Thread nD τ).loc main_arg3) : FVec Ideal S1024 .f32) (ix1 j)
  w2 := fun k j => (m ((c.tc : Thread nD τ).loc main_arg4) : FVec Ideal S1024x1024 .f32) (ix2 k j)
  b2 := fun j => (m ((c.tc : Thread nD τ).loc main_arg5) : FVec Ideal S1024 .f32) (ix1 j)
  w3 := fun k j => (m ((c.tc : Thread nD τ).loc main_arg6) : FVec Ideal S1024x1024 .f32) (ix2 k j)
  b3 := fun j => (m ((c.tc : Thread nD τ).loc main_arg7) : FVec Ideal S1024 .f32) (ix1 j)
  w4 := fun k j => (m ((c.tc : Thread nD τ).loc main_arg8) : FVec Ideal S1024x1024 .f32) (ix2 k j)
  b4 := fun j => (m ((c.tc : Thread nD τ).loc main_arg9) : FVec Ideal S1024 .f32) (ix1 j)
  w5 := fun k j => (m ((c.tc : Thread nD τ).loc main_arg10) : FVec Ideal S1024x1024 .f32) (ix2 k j)
  b5 := fun j => (m ((c.tc : Thread nD τ).loc main_arg11) : FVec Ideal S1024 .f32) (ix1 j)
  w6 := fun k j => (m ((c.tc : Thread nD τ).loc main_arg12) : FVec Ideal S1024x1024 .f32) (ix2 k j)
  b6 := fun j => (m ((c.tc : Thread nD τ).loc main_arg13) : FVec Ideal S1024 .f32) (ix1 j)

/-- A row of the input. -/
def rowOf (r : Fin 2048) : Row := fun j => argX m c (ix2 r j)

/-- The latents. -/
theorem zOf_apply (r : Fin 2048) (q : Fin 16) (d : Fin 64) :
    zOf m c (ix3 r q d) = (net m c).latent (rowOf m c r) (cell q d) :=
  (latents_apply _ _ _ _ _ _ _ r q d).trans (three_layers _ _ _ _ _ _ _ r (cell q d))

/-- The input, the codebook and the encoder are real. -/
structure RealInput : Prop where
  x : ∀ r j, IsReal (rowOf m c r j)
  net : (net m c).RealEncoder

variable {m c} (h : RealInput m c)
include h

theorem zOf_real (r : Fin 2048) (q : Fin 16) (d : Fin 64) : IsReal (zOf m c (ix3 r q d)) := by
  rw [zOf_apply]
  exact h.net.latent (h.x r) _

/-- The indices. -/
theorem kOf_apply (r : Fin 2048) (q : Fin 16) :
    kOf m c (ix2 r q) = BitVec.ofNat 32 ((net m c).code (rowOf m c r) q).val := by
  refine nearest_apply _ r q (dist (part ((net m c).latent (rowOf m c r)) q) (net m c).e) fun k => ?_
  have hd := dist_eq (u := part ((net m c).latent (rowOf m c r)) q) (fun d => h.net.latent (h.x r) (cell q d)) h.net.e k
  rw [dists_apply, ← hd]
  simp only [zOf_apply, part]
  rfl

/-- The codebook rows. -/
theorem qOf_apply (r : Fin 2048) (q : Fin 16) (d : Fin 64) :
    qOf m c (ix3 r q d) = (net m c).e ((net m c).code (rowOf m c r) q) d :=
  looked_apply _ _ r q d _ (kOf_apply h r q)

/-- The one-hot codes. -/
theorem hot_kOf_apply (r : Fin 2048) (q : Fin 16) (k : Fin 1024) :
    hot (kOf m c) (ix3 r q k) = (net m c).oneHot (rowOf m c r) q k := by
  rw [hot_apply, kOf_apply h]
  unfold Net.oneHot IntOp.cmpi
  simp only [Bool.beq_comm]

/-- The reconstruction. -/
theorem yOf_apply (r : Fin 2048) (j : Fin 1024) : yOf m c (ix2 r j) = (net m c).recon (rowOf m c r) j :=
  decoded_apply _ _ _ _ _ _ _ _ r (glued (net m c).e ((net m c).latent (rowOf m c r))) (zOf_real h r)
    (fun k => qOf_apply h r _ _) j

/-- The loss. -/
theorem loss_apply (i : S1x1.Idx) :
    lossOf (argX m c) (yOf m c) (zOf m c) (qOf m c) i = (net m c).loss (rowOf m c) := by
  rw [lossOf_apply, once_and_quarter]
  unfold Net.loss Net.reconErr Net.latentErr
  simp only [yOf_apply h, zOf_apply, qOf_apply h]
  rfl

end Cert.ReferenceIdeal.Stage

end
-- ==== Proof.Agree.lean ====
/- From memories that agree on the arguments, and with the precondition, the reference's results are the kernel's. -/
module

public import proofs.«01_k».proof.Proof.Finite
public import proofs.«01_k».proof.Proof.Final
public import proofs.«01_k».proof.Proof.RefNet

@[expose] public section

set_option maxRecDepth 4096

noncomputable section

open Idealize.ShloMosaic Idealize.ShloMosaic.TcCoe Idealize.SL.Sem

namespace Cert.Agree

open Cert.KernelIdeal.Block (xpAll zdAll lossAll)
open Cert.ReferenceIdeal.Stage (RealInput hot yOf zOf kOf qOf argX lossOf yOf_apply hot_kOf_apply loss_apply)

/-- The precondition's first eight arrays are real. -/
theorem real_input (m : (ℓ : Loc Cert.KernelIdeal.nD Cert.KernelIdeal.τ Cert.KernelIdeal.sig) → Buf (Elt Ideal) ℓ)
    (hpre : Pre_KernelIdeal_finite (hPre_finite := Cert.Pre_finite.facts) m) (c : Dev Cert.KernelIdeal.nD) :
    (∀ r j, Cert.Spec.IsReal (Cert.KernelIdeal.Block.rowOf m c r j)) ∧ (Cert.KernelIdeal.Block.net m c).RealEncoder := by
  obtain ⟨hx, he, hw1, hb1, hw2, hb2, hw3, hb3⟩ := hpre c
  exact ⟨fun r j => Cert.Pre_finite.real_of_finite _ _ hx (ix2 r j),
    { e := fun k d => Cert.Pre_finite.real_of_finite _ _ he (ix2 k d)
      w1 := fun k j => Cert.Pre_finite.real_of_finite _ _ hw1 (ix2 k j)
      b1 := fun j => Cert.Pre_finite.real_of_finite _ _ hb1 (ix1 j)
      w2 := fun k j => Cert.Pre_finite.real_of_finite _ _ hw2 (ix2 k j)
      b2 := fun j => Cert.Pre_finite.real_of_finite _ _ hb2 (ix1 j)
      w3 := fun k j => Cert.Pre_finite.real_of_finite _ _ hw3 (ix2 k j)
      b3 := fun j => Cert.Pre_finite.real_of_finite _ _ hb3 (ix1 j) }⟩

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ}
  {c : Dev Cert.KernelIdeal.nD}

/-- Arguments that agree describe one network. -/
theorem net_eq
    (a1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4))
    (a5 : m' ((c.tc : Thread Cert.ReferenceIdeal.nD Cert.ReferenceIdeal.τ).loc Cert.ReferenceIdeal.main_arg5)
      = m ((c.tc : Thread Cert.KernelIdeal.nD Cert.KernelIdeal.τ).loc Cert.KernelIdeal.main_arg5))
    (a6 : m' ((c.tc : Thread Cert.ReferenceIdeal.nD Cert.ReferenceIdeal.τ).loc Cert.ReferenceIdeal.main_arg6)
      = m ((c.tc : Thread Cert.KernelIdeal.nD Cert.KernelIdeal.τ).loc Cert.KernelIdeal.main_arg6))
    (a7 : m' ((c.tc : Thread Cert.ReferenceIdeal.nD Cert.ReferenceIdeal.τ).loc Cert.ReferenceIdeal.main_arg7)
      = m ((c.tc : Thread Cert.KernelIdeal.nD Cert.KernelIdeal.τ).loc Cert.KernelIdeal.main_arg7))
    (a8 : m' ((c.tc : Thread Cert.ReferenceIdeal.nD Cert.ReferenceIdeal.τ).loc Cert.ReferenceIdeal.main_arg8)
      = m ((c.tc : Thread Cert.KernelIdeal.nD Cert.KernelIdeal.τ).loc Cert.KernelIdeal.main_arg8))
    (a9 : m' ((c.tc : Thread Cert.ReferenceIdeal.nD Cert.ReferenceIdeal.τ).loc Cert.ReferenceIdeal.main_arg9)
      = m ((c.tc : Thread Cert.KernelIdeal.nD Cert.KernelIdeal.τ).loc Cert.KernelIdeal.main_arg9))
    (a10 : m' ((c.tc : Thread Cert.ReferenceIdeal.nD Cert.ReferenceIdeal.τ).loc Cert.ReferenceIdeal.main_arg10)
      = m ((c.tc : Thread Cert.KernelIdeal.nD Cert.KernelIdeal.τ).loc Cert.KernelIdeal.main_arg10))
    (a11 : m' ((c.tc : Thread Cert.ReferenceIdeal.nD Cert.ReferenceIdeal.τ).loc Cert.ReferenceIdeal.main_arg11)
      = m ((c.tc : Thread Cert.KernelIdeal.nD Cert.KernelIdeal.τ).loc Cert.KernelIdeal.main_arg11))
    (a12 : m' ((c.tc : Thread Cert.ReferenceIdeal.nD Cert.ReferenceIdeal.τ).loc Cert.ReferenceIdeal.main_arg12)
      = m ((c.tc : Thread Cert.KernelIdeal.nD Cert.KernelIdeal.τ).loc Cert.KernelIdeal.main_arg12))
    (a13 : m' ((c.tc : Thread Cert.ReferenceIdeal.nD Cert.ReferenceIdeal.τ).loc Cert.ReferenceIdeal.main_arg13)
      = m ((c.tc : Thread Cert.KernelIdeal.nD Cert.KernelIdeal.τ).loc Cert.KernelIdeal.main_arg13)) :
    Cert.ReferenceIdeal.Stage.net m' c = Cert.KernelIdeal.Block.net m c := by
  unfold Cert.ReferenceIdeal.Stage.net Cert.KernelIdeal.Block.net Cert.ReferenceIdeal.Stage.argE
  rw [a1, a2, a3, a4, a5, a6, a7, a8, a9, a10, a11, a12, a13]

/-- Inputs that agree have the same rows. -/
theorem row_eq
    (a0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    Cert.ReferenceIdeal.Stage.rowOf m' c = Cert.KernelIdeal.Block.rowOf m c := by
  unfold Cert.ReferenceIdeal.Stage.rowOf Cert.KernelIdeal.Block.rowOf Cert.ReferenceIdeal.Stage.argX
  rw [a0]

/-- One network and the same rows, all real: the three results agree. -/
theorem results_eq (hn : Cert.ReferenceIdeal.Stage.net m' c = Cert.KernelIdeal.Block.net m c)
    (hr : Cert.ReferenceIdeal.Stage.rowOf m' c = Cert.KernelIdeal.Block.rowOf m c)
    (hreal : (∀ r j, Cert.Spec.IsReal (Cert.KernelIdeal.Block.rowOf m c r j)) ∧ (Cert.KernelIdeal.Block.net m c).RealEncoder) :
    yOf m' c = xpAll m c ∧ hot (kOf m' c) = zdAll m c
      ∧ lossOf (argX m' c) (yOf m' c) (zOf m' c) (qOf m' c) = lossAll m c := by
  have h : RealInput m' c := ⟨by rw [hr]; exact hreal.1, by rw [hn]; exact hreal.2⟩
  refine ⟨funext fun i => ?_, funext fun i => ?_, funext fun i => ?_⟩
  · idx_vars i
    unfold xpAll
    rw [← hn, ← hr]
    exact yOf_apply h i0 i1
  · idx_vars i
    unfold zdAll
    rw [← hn, ← hr]
    exact hot_kOf_apply h i0 i1 i2
  · unfold lossAll
    rw [← hn, ← hr]
    exact loss_apply h i

end Cert.Agree

end
-- ==== Proof.lean ====
/- The certificate: the frames of the kernel, of its ideal reading and of the reference; the ideal reading preserves the
   kernel; and from real inputs the ideal kernel and the reference end with the same reconstruction, codes and loss. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.RefRun
public import proofs.«01_k».proof.Proof.Agree
public import Idealize.ShloMosaic.Adequacy
public import Idealize.ShloMosaic.Init

@[expose] public section

set_option maxRecDepth 4096

noncomputable section

namespace Cert.Proof

open Idealize.ShloMosaic Idealize.SL.Sem

/-- The reference ends with its arguments unchanged and every semaphore at rest. -/
theorem reference_frame : quiescent_ReferenceIdeal (hReferenceIdeal := Cert.ReferenceIdeal.Gen.facts) := by
  intro m g _
  exact (θ_run _ _ _).mono (fun r h => ⟨fun c => (h c).2.2.2, sem_eq_zero_of_no_sems (by decide) r.2⟩)
    (Cert.ReferenceIdeal.Stage.run_stages m g)

/-- The kernel's results are the reference's. -/
theorem algebraic : algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre hagree
  refine ⟨Cert.KernelIdeal.Block.xpAll m, Cert.KernelIdeal.Block.zdAll m, Cert.KernelIdeal.Block.lossAll m, ?_, ?_⟩
  · exact (θ_run _ _ _).mono (fun r h c => ⟨(h c).1.trans (Cert.KernelIdeal.Block.xp_final m c),
      (h c).2.1.trans (Cert.KernelIdeal.Block.zd_final m c), (h c).2.2.1.trans (Cert.KernelIdeal.Block.loss_final m c),
      (h c).2.2.2⟩) (Cert.KernelIdeal.Value.run_blocks m g)
  · refine (θ_run _ _ _).mono (fun r h c => ?_) (Cert.ReferenceIdeal.Stage.run_stages m' g')
    obtain ⟨a0, a1, a2, a3, a4, a5, a6, a7, a8, a9, a10, a11, a12, a13⟩ := hagree c
    obtain ⟨hx, hz, hl⟩ := Cert.Agree.results_eq (Cert.Agree.net_eq a1 a2 a3 a4 a5 a6 a7 a8 a9 a10 a11 a12 a13)
      (Cert.Agree.row_eq a0) (Cert.Agree.real_input m hpre c)
    exact ⟨(h c).1.trans hx, (h c).2.1.trans hz, (h c).2.2.1.trans hl, (h c).2.2.2⟩

theorem claim : Cert.Claim :=
  ⟨Cert.Kernel.Gen.facts, Cert.KernelIdeal.Gen.facts, Cert.ReferenceIdeal.Gen.facts, Cert.Pre_finite.facts,
    fun m g _ => Cert.Kernel.Gen.frame m g,
    fun m g _ => Cert.KernelIdeal.Gen.frame m g,
    fun m g _ => Cert.KernelIdeal.Gen.frame m g,
    reference_frame,
    fun m g _ => reference_frame m g trivial,
    trivial,
    algebraic⟩

end Cert.Proof

end
